-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S256x2048 : Shape := ⟨2, ![256, 2048]⟩
abbrev S16 : Shape := ⟨1, ![16]⟩
abbrev S_ : Shape := ⟨0, ![]⟩
abbrev S256x128 : Shape := ⟨2, ![256, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e5m2⟩
  | .local _ .vmem, ⟨1, _⟩ => ⟨S4096x2048, .fp8e5m2⟩
  | .local _ .vmem, ⟨2, _⟩ => ⟨S4096x128, .f32⟩
  | .local _ .vmem, ⟨3, _⟩ => ⟨S256x4096, .bf16⟩
  | .local _ .vmem, ⟨4, _⟩ => ⟨S256x2048, .bf16⟩
  | .local _ .vmem, ⟨5, _⟩ => ⟨S4096x128, .bf16⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_141 : BitVec 32) : Fin 2 → Nat :=
  let c0_148 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c128_i32 : BitVec 32 := 128#32
  let v219 : BitVec 32 := Scalar.muli v218 c128_i32
  let v220 : Index := Scalar.indexCast v219
  ![0, v220.toNat]
def k0_off2 (d0 : Dev nD) (c1_i32_141 : BitVec 32) : Fin 2 → Nat :=
  let c0_153 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c128_i32_152 : BitVec 32 := 128#32
  let v231 : BitVec 32 := Scalar.muli v218 c128_i32_152
  let v232 : Index := Scalar.indexCast v231
  ![0, v232.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v237 : BitVec 32 := Scalar.muli v2 c256_i32
  let c0_i32_158 : BitVec 32 := 0#32
  ![v237.toNat, 0]
def k0_off5 (d0 : Dev nD) (c1_i32_141 : BitVec 32) : Fin 2 → Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c128_i32_154 : BitVec 32 := 128#32
  let v236 : BitVec 32 := Scalar.muli v218 c128_i32_154
  ![0, v236.toNat]
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c1_i32_156 : BitVec 32 := 1#32
  let v238 : BitVec 32 := Scalar.muli v218 c1_i32_156
  let v239 : BitVec 32 := Scalar.addi c0_i32_157 v238
  v239.toNat
def k0_dev17 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v246 : BitVec 32 := Scalar.addi v2 c2_i32_160
  let c16_i32_161 : BitVec 32 := 16#32
  let c0_i32_162 : BitVec 32 := 0#32
  let v247 : BitVec 1 := Scalar.cmpi .eq c16_i32_161 c0_i32_162
  let c1_i32_163 : BitVec 32 := 1#32
  let v248 : BitVec 32 := Scalar.select v247 c1_i32_163 c16_i32_161
  let v249 : BitVec 32 := Scalar.remsi v246 v248
  let c0_i32_165 : BitVec 32 := 0#32
  let v251 : BitVec 1 := Scalar.cmpi .slt v249 c0_i32_165
  let c0_i32_166 : BitVec 32 := 0#32
  let v252 : BitVec 1 := Scalar.cmpi .slt v248 c0_i32_166
  let v253 : BitVec 1 := Scalar.xori v251 v252
  let c0_i32_164 : BitVec 32 := 0#32
  let v250 : BitVec 1 := Scalar.cmpi .ne v249 c0_i32_164
  let v254 : BitVec 1 := Scalar.andi v253 v250
  let v255 : BitVec 32 := Scalar.addi v249 v248
  let v256 : BitVec 32 := Scalar.select v254 v255 v249
  let c1_i32_178 : BitVec 32 := 1#32
  let v276 : BitVec 32 := Scalar.muli v256 c1_i32_178
  let v277 : BitVec 32 := Scalar.addi c0_i32_179 v276
  v277.toNat
def k0_dev18 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_182 : BitVec 32 := 3#32
  let v284 : BitVec 32 := Scalar.addi v2 c3_i32_182
  let c16_i32_183 : BitVec 32 := 16#32
  let c0_i32_184 : BitVec 32 := 0#32
  let v285 : BitVec 1 := Scalar.cmpi .eq c16_i32_183 c0_i32_184
  let c1_i32_185 : BitVec 32 := 1#32
  let v286 : BitVec 32 := Scalar.select v285 c1_i32_185 c16_i32_183
  let v287 : BitVec 32 := Scalar.remsi v284 v286
  let c0_i32_187 : BitVec 32 := 0#32
  let v289 : BitVec 1 := Scalar.cmpi .slt v287 c0_i32_187
  let c0_i32_188 : BitVec 32 := 0#32
  let v290 : BitVec 1 := Scalar.cmpi .slt v286 c0_i32_188
  let v291 : BitVec 1 := Scalar.xori v289 v290
  let c0_i32_186 : BitVec 32 := 0#32
  let v288 : BitVec 1 := Scalar.cmpi .ne v287 c0_i32_186
  let v292 : BitVec 1 := Scalar.andi v291 v288
  let v293 : BitVec 32 := Scalar.addi v287 v286
  let v294 : BitVec 32 := Scalar.select v292 v293 v287
  let c1_i32_200 : BitVec 32 := 1#32
  let v314 : BitVec 32 := Scalar.muli v294 c1_i32_200
  let v315 : BitVec 32 := Scalar.addi c0_i32_201 v314
  v315.toNat
def k0_dev19 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_204 : BitVec 32 := 4#32
  let v322 : BitVec 32 := Scalar.addi v2 c4_i32_204
  let c16_i32_205 : BitVec 32 := 16#32
  let c0_i32_206 : BitVec 32 := 0#32
  let v323 : BitVec 1 := Scalar.cmpi .eq c16_i32_205 c0_i32_206
  let c1_i32_207 : BitVec 32 := 1#32
  let v324 : BitVec 32 := Scalar.select v323 c1_i32_207 c16_i32_205
  let v325 : BitVec 32 := Scalar.remsi v322 v324
  let c0_i32_209 : BitVec 32 := 0#32
  let v327 : BitVec 1 := Scalar.cmpi .slt v325 c0_i32_209
  let c0_i32_210 : BitVec 32 := 0#32
  let v328 : BitVec 1 := Scalar.cmpi .slt v324 c0_i32_210
  let v329 : BitVec 1 := Scalar.xori v327 v328
  let c0_i32_208 : BitVec 32 := 0#32
  let v326 : BitVec 1 := Scalar.cmpi .ne v325 c0_i32_208
  let v330 : BitVec 1 := Scalar.andi v329 v326
  let v331 : BitVec 32 := Scalar.addi v325 v324
  let v332 : BitVec 32 := Scalar.select v330 v331 v325
  let c1_i32_222 : BitVec 32 := 1#32
  let v352 : BitVec 32 := Scalar.muli v332 c1_i32_222
  let v353 : BitVec 32 := Scalar.addi c0_i32_223 v352
  v353.toNat
def k0_dev20 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_226 : BitVec 32 := 5#32
  let v360 : BitVec 32 := Scalar.addi v2 c5_i32_226
  let c16_i32_227 : BitVec 32 := 16#32
  let c0_i32_228 : BitVec 32 := 0#32
  let v361 : BitVec 1 := Scalar.cmpi .eq c16_i32_227 c0_i32_228
  let c1_i32_229 : BitVec 32 := 1#32
  let v362 : BitVec 32 := Scalar.select v361 c1_i32_229 c16_i32_227
  let v363 : BitVec 32 := Scalar.remsi v360 v362
  let c0_i32_231 : BitVec 32 := 0#32
  let v365 : BitVec 1 := Scalar.cmpi .slt v363 c0_i32_231
  let c0_i32_232 : BitVec 32 := 0#32
  let v366 : BitVec 1 := Scalar.cmpi .slt v362 c0_i32_232
  let v367 : BitVec 1 := Scalar.xori v365 v366
  let c0_i32_230 : BitVec 32 := 0#32
  let v364 : BitVec 1 := Scalar.cmpi .ne v363 c0_i32_230
  let v368 : BitVec 1 := Scalar.andi v367 v364
  let v369 : BitVec 32 := Scalar.addi v363 v362
  let v370 : BitVec 32 := Scalar.select v368 v369 v363
  let c1_i32_244 : BitVec 32 := 1#32
  let v390 : BitVec 32 := Scalar.muli v370 c1_i32_244
  let v391 : BitVec 32 := Scalar.addi c0_i32_245 v390
  v391.toNat
def k0_dev21 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_248 : BitVec 32 := 6#32
  let v398 : BitVec 32 := Scalar.addi v2 c6_i32_248
  let c16_i32_249 : BitVec 32 := 16#32
  let c0_i32_250 : BitVec 32 := 0#32
  let v399 : BitVec 1 := Scalar.cmpi .eq c16_i32_249 c0_i32_250
  let c1_i32_251 : BitVec 32 := 1#32
  let v400 : BitVec 32 := Scalar.select v399 c1_i32_251 c16_i32_249
  let v401 : BitVec 32 := Scalar.remsi v398 v400
  let c0_i32_253 : BitVec 32 := 0#32
  let v403 : BitVec 1 := Scalar.cmpi .slt v401 c0_i32_253
  let c0_i32_254 : BitVec 32 := 0#32
  let v404 : BitVec 1 := Scalar.cmpi .slt v400 c0_i32_254
  let v405 : BitVec 1 := Scalar.xori v403 v404
  let c0_i32_252 : BitVec 32 := 0#32
  let v402 : BitVec 1 := Scalar.cmpi .ne v401 c0_i32_252
  let v406 : BitVec 1 := Scalar.andi v405 v402
  let v407 : BitVec 32 := Scalar.addi v401 v400
  let v408 : BitVec 32 := Scalar.select v406 v407 v401
  let c1_i32_266 : BitVec 32 := 1#32
  let v428 : BitVec 32 := Scalar.muli v408 c1_i32_266
  let v429 : BitVec 32 := Scalar.addi c0_i32_267 v428
  v429.toNat
def k0_dev22 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_270 : BitVec 32 := 7#32
  let v436 : BitVec 32 := Scalar.addi v2 c7_i32_270
  let c16_i32_271 : BitVec 32 := 16#32
  let c0_i32_272 : BitVec 32 := 0#32
  let v437 : BitVec 1 := Scalar.cmpi .eq c16_i32_271 c0_i32_272
  let c1_i32_273 : BitVec 32 := 1#32
  let v438 : BitVec 32 := Scalar.select v437 c1_i32_273 c16_i32_271
  let v439 : BitVec 32 := Scalar.remsi v436 v438
  let c0_i32_275 : BitVec 32 := 0#32
  let v441 : BitVec 1 := Scalar.cmpi .slt v439 c0_i32_275
  let c0_i32_276 : BitVec 32 := 0#32
  let v442 : BitVec 1 := Scalar.cmpi .slt v438 c0_i32_276
  let v443 : BitVec 1 := Scalar.xori v441 v442
  let c0_i32_274 : BitVec 32 := 0#32
  let v440 : BitVec 1 := Scalar.cmpi .ne v439 c0_i32_274
  let v444 : BitVec 1 := Scalar.andi v443 v440
  let v445 : BitVec 32 := Scalar.addi v439 v438
  let v446 : BitVec 32 := Scalar.select v444 v445 v439
  let c1_i32_288 : BitVec 32 := 1#32
  let v466 : BitVec 32 := Scalar.muli v446 c1_i32_288
  let v467 : BitVec 32 := Scalar.addi c0_i32_289 v466
  v467.toNat
def k0_dev23 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_292 : BitVec 32 := 8#32
  let v474 : BitVec 32 := Scalar.addi v2 c8_i32_292
  let c16_i32_293 : BitVec 32 := 16#32
  let c0_i32_294 : BitVec 32 := 0#32
  let v475 : BitVec 1 := Scalar.cmpi .eq c16_i32_293 c0_i32_294
  let c1_i32_295 : BitVec 32 := 1#32
  let v476 : BitVec 32 := Scalar.select v475 c1_i32_295 c16_i32_293
  let v477 : BitVec 32 := Scalar.remsi v474 v476
  let c0_i32_297 : BitVec 32 := 0#32
  let v479 : BitVec 1 := Scalar.cmpi .slt v477 c0_i32_297
  let c0_i32_298 : BitVec 32 := 0#32
  let v480 : BitVec 1 := Scalar.cmpi .slt v476 c0_i32_298
  let v481 : BitVec 1 := Scalar.xori v479 v480
  let c0_i32_296 : BitVec 32 := 0#32
  let v478 : BitVec 1 := Scalar.cmpi .ne v477 c0_i32_296
  let v482 : BitVec 1 := Scalar.andi v481 v478
  let v483 : BitVec 32 := Scalar.addi v477 v476
  let v484 : BitVec 32 := Scalar.select v482 v483 v477
  let c1_i32_310 : BitVec 32 := 1#32
  let v504 : BitVec 32 := Scalar.muli v484 c1_i32_310
  let v505 : BitVec 32 := Scalar.addi c0_i32_311 v504
  v505.toNat
def k0_dev24 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_314 : BitVec 32 := 9#32
  let v512 : BitVec 32 := Scalar.addi v2 c9_i32_314
  let c16_i32_315 : BitVec 32 := 16#32
  let c0_i32_316 : BitVec 32 := 0#32
  let v513 : BitVec 1 := Scalar.cmpi .eq c16_i32_315 c0_i32_316
  let c1_i32_317 : BitVec 32 := 1#32
  let v514 : BitVec 32 := Scalar.select v513 c1_i32_317 c16_i32_315
  let v515 : BitVec 32 := Scalar.remsi v512 v514
  let c0_i32_319 : BitVec 32 := 0#32
  let v517 : BitVec 1 := Scalar.cmpi .slt v515 c0_i32_319
  let c0_i32_320 : BitVec 32 := 0#32
  let v518 : BitVec 1 := Scalar.cmpi .slt v514 c0_i32_320
  let v519 : BitVec 1 := Scalar.xori v517 v518
  let c0_i32_318 : BitVec 32 := 0#32
  let v516 : BitVec 1 := Scalar.cmpi .ne v515 c0_i32_318
  let v520 : BitVec 1 := Scalar.andi v519 v516
  let v521 : BitVec 32 := Scalar.addi v515 v514
  let v522 : BitVec 32 := Scalar.select v520 v521 v515
  let c1_i32_332 : BitVec 32 := 1#32
  let v542 : BitVec 32 := Scalar.muli v522 c1_i32_332
  let v543 : BitVec 32 := Scalar.addi c0_i32_333 v542
  v543.toNat
def k0_dev25 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_336 : BitVec 32 := 10#32
  let v550 : BitVec 32 := Scalar.addi v2 c10_i32_336
  let c16_i32_337 : BitVec 32 := 16#32
  let c0_i32_338 : BitVec 32 := 0#32
  let v551 : BitVec 1 := Scalar.cmpi .eq c16_i32_337 c0_i32_338
  let c1_i32_339 : BitVec 32 := 1#32
  let v552 : BitVec 32 := Scalar.select v551 c1_i32_339 c16_i32_337
  let v553 : BitVec 32 := Scalar.remsi v550 v552
  let c0_i32_341 : BitVec 32 := 0#32
  let v555 : BitVec 1 := Scalar.cmpi .slt v553 c0_i32_341
  let c0_i32_342 : BitVec 32 := 0#32
  let v556 : BitVec 1 := Scalar.cmpi .slt v552 c0_i32_342
  let v557 : BitVec 1 := Scalar.xori v555 v556
  let c0_i32_340 : BitVec 32 := 0#32
  let v554 : BitVec 1 := Scalar.cmpi .ne v553 c0_i32_340
  let v558 : BitVec 1 := Scalar.andi v557 v554
  let v559 : BitVec 32 := Scalar.addi v553 v552
  let v560 : BitVec 32 := Scalar.select v558 v559 v553
  let c1_i32_354 : BitVec 32 := 1#32
  let v580 : BitVec 32 := Scalar.muli v560 c1_i32_354
  let v581 : BitVec 32 := Scalar.addi c0_i32_355 v580
  v581.toNat
def k0_dev26 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_358 : BitVec 32 := 11#32
  let v588 : BitVec 32 := Scalar.addi v2 c11_i32_358
  let c16_i32_359 : BitVec 32 := 16#32
  let c0_i32_360 : BitVec 32 := 0#32
  let v589 : BitVec 1 := Scalar.cmpi .eq c16_i32_359 c0_i32_360
  let c1_i32_361 : BitVec 32 := 1#32
  let v590 : BitVec 32 := Scalar.select v589 c1_i32_361 c16_i32_359
  let v591 : BitVec 32 := Scalar.remsi v588 v590
  let c0_i32_363 : BitVec 32 := 0#32
  let v593 : BitVec 1 := Scalar.cmpi .slt v591 c0_i32_363
  let c0_i32_364 : BitVec 32 := 0#32
  let v594 : BitVec 1 := Scalar.cmpi .slt v590 c0_i32_364
  let v595 : BitVec 1 := Scalar.xori v593 v594
  let c0_i32_362 : BitVec 32 := 0#32
  let v592 : BitVec 1 := Scalar.cmpi .ne v591 c0_i32_362
  let v596 : BitVec 1 := Scalar.andi v595 v592
  let v597 : BitVec 32 := Scalar.addi v591 v590
  let v598 : BitVec 32 := Scalar.select v596 v597 v591
  let c1_i32_376 : BitVec 32 := 1#32
  let v618 : BitVec 32 := Scalar.muli v598 c1_i32_376
  let v619 : BitVec 32 := Scalar.addi c0_i32_377 v618
  v619.toNat
def k0_dev27 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_380 : BitVec 32 := 12#32
  let v626 : BitVec 32 := Scalar.addi v2 c12_i32_380
  let c16_i32_381 : BitVec 32 := 16#32
  let c0_i32_382 : BitVec 32 := 0#32
  let v627 : BitVec 1 := Scalar.cmpi .eq c16_i32_381 c0_i32_382
  let c1_i32_383 : BitVec 32 := 1#32
  let v628 : BitVec 32 := Scalar.select v627 c1_i32_383 c16_i32_381
  let v629 : BitVec 32 := Scalar.remsi v626 v628
  let c0_i32_385 : BitVec 32 := 0#32
  let v631 : BitVec 1 := Scalar.cmpi .slt v629 c0_i32_385
  let c0_i32_386 : BitVec 32 := 0#32
  let v632 : BitVec 1 := Scalar.cmpi .slt v628 c0_i32_386
  let v633 : BitVec 1 := Scalar.xori v631 v632
  let c0_i32_384 : BitVec 32 := 0#32
  let v630 : BitVec 1 := Scalar.cmpi .ne v629 c0_i32_384
  let v634 : BitVec 1 := Scalar.andi v633 v630
  let v635 : BitVec 32 := Scalar.addi v629 v628
  let v636 : BitVec 32 := Scalar.select v634 v635 v629
  let c1_i32_398 : BitVec 32 := 1#32
  let v656 : BitVec 32 := Scalar.muli v636 c1_i32_398
  let v657 : BitVec 32 := Scalar.addi c0_i32_399 v656
  v657.toNat
def k0_dev28 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_402 : BitVec 32 := 13#32
  let v664 : BitVec 32 := Scalar.addi v2 c13_i32_402
  let c16_i32_403 : BitVec 32 := 16#32
  let c0_i32_404 : BitVec 32 := 0#32
  let v665 : BitVec 1 := Scalar.cmpi .eq c16_i32_403 c0_i32_404
  let c1_i32_405 : BitVec 32 := 1#32
  let v666 : BitVec 32 := Scalar.select v665 c1_i32_405 c16_i32_403
  let v667 : BitVec 32 := Scalar.remsi v664 v666
  let c0_i32_407 : BitVec 32 := 0#32
  let v669 : BitVec 1 := Scalar.cmpi .slt v667 c0_i32_407
  let c0_i32_408 : BitVec 32 := 0#32
  let v670 : BitVec 1 := Scalar.cmpi .slt v666 c0_i32_408
  let v671 : BitVec 1 := Scalar.xori v669 v670
  let c0_i32_406 : BitVec 32 := 0#32
  let v668 : BitVec 1 := Scalar.cmpi .ne v667 c0_i32_406
  let v672 : BitVec 1 := Scalar.andi v671 v668
  let v673 : BitVec 32 := Scalar.addi v667 v666
  let v674 : BitVec 32 := Scalar.select v672 v673 v667
  let c1_i32_420 : BitVec 32 := 1#32
  let v694 : BitVec 32 := Scalar.muli v674 c1_i32_420
  let v695 : BitVec 32 := Scalar.addi c0_i32_421 v694
  v695.toNat
def k0_dev29 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_424 : BitVec 32 := 14#32
  let v702 : BitVec 32 := Scalar.addi v2 c14_i32_424
  let c16_i32_425 : BitVec 32 := 16#32
  let c0_i32_426 : BitVec 32 := 0#32
  let v703 : BitVec 1 := Scalar.cmpi .eq c16_i32_425 c0_i32_426
  let c1_i32_427 : BitVec 32 := 1#32
  let v704 : BitVec 32 := Scalar.select v703 c1_i32_427 c16_i32_425
  let v705 : BitVec 32 := Scalar.remsi v702 v704
  let c0_i32_429 : BitVec 32 := 0#32
  let v707 : BitVec 1 := Scalar.cmpi .slt v705 c0_i32_429
  let c0_i32_430 : BitVec 32 := 0#32
  let v708 : BitVec 1 := Scalar.cmpi .slt v704 c0_i32_430
  let v709 : BitVec 1 := Scalar.xori v707 v708
  let c0_i32_428 : BitVec 32 := 0#32
  let v706 : BitVec 1 := Scalar.cmpi .ne v705 c0_i32_428
  let v710 : BitVec 1 := Scalar.andi v709 v706
  let v711 : BitVec 32 := Scalar.addi v705 v704
  let v712 : BitVec 32 := Scalar.select v710 v711 v705
  let c1_i32_442 : BitVec 32 := 1#32
  let v732 : BitVec 32 := Scalar.muli v712 c1_i32_442
  let v733 : BitVec 32 := Scalar.addi c0_i32_443 v732
  v733.toNat
def k0_dev30 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_446 : BitVec 32 := 15#32
  let v740 : BitVec 32 := Scalar.addi v2 c15_i32_446
  let c16_i32_447 : BitVec 32 := 16#32
  let c0_i32_448 : BitVec 32 := 0#32
  let v741 : BitVec 1 := Scalar.cmpi .eq c16_i32_447 c0_i32_448
  let c1_i32_449 : BitVec 32 := 1#32
  let v742 : BitVec 32 := Scalar.select v741 c1_i32_449 c16_i32_447
  let v743 : BitVec 32 := Scalar.remsi v740 v742
  let c0_i32_451 : BitVec 32 := 0#32
  let v745 : BitVec 1 := Scalar.cmpi .slt v743 c0_i32_451
  let c0_i32_452 : BitVec 32 := 0#32
  let v746 : BitVec 1 := Scalar.cmpi .slt v742 c0_i32_452
  let v747 : BitVec 1 := Scalar.xori v745 v746
  let c0_i32_450 : BitVec 32 := 0#32
  let v744 : BitVec 1 := Scalar.cmpi .ne v743 c0_i32_450
  let v748 : BitVec 1 := Scalar.andi v747 v744
  let v749 : BitVec 32 := Scalar.addi v743 v742
  let v750 : BitVec 32 := Scalar.select v748 v749 v743
  let c1_i32_464 : BitVec 32 := 1#32
  let v770 : BitVec 32 := Scalar.muli v750 c1_i32_464
  let v771 : BitVec 32 := Scalar.addi c0_i32_465 v770
  v771.toNat
def k0_off6 (d0 : Dev nD) : Fin 2 → Nat :=
  let c0_469 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_468 : BitVec 32 := 128#32
  let v778 : BitVec 32 := Scalar.muli v2 c128_i32_468
  let v779 : Index := Scalar.indexCast v778
  ![0, v779.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_474 : BitVec 32 := 256#32
  let v789 : BitVec 32 := Scalar.muli v2 c256_i32_474
  let v790 : Index := Scalar.indexCast v789
  let c0_475 : Index := 0#32
  ![v790.toNat, 0]
def k0_off8 (d0 : Dev nD) (c1_i32_476 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v792 : BitVec 32 := Scalar.addi v2 c1_i32_476
  let c16_i32_477 : BitVec 32 := 16#32
  let c0_i32_478 : BitVec 32 := 0#32
  let v793 : BitVec 1 := Scalar.cmpi .eq c16_i32_477 c0_i32_478
  let c1_i32_479 : BitVec 32 := 1#32
  let v794 : BitVec 32 := Scalar.select v793 c1_i32_479 c16_i32_477
  let v795 : BitVec 32 := Scalar.remsi v792 v794
  let c0_i32_481 : BitVec 32 := 0#32
  let v797 : BitVec 1 := Scalar.cmpi .slt v795 c0_i32_481
  let c0_i32_482 : BitVec 32 := 0#32
  let v798 : BitVec 1 := Scalar.cmpi .slt v794 c0_i32_482
  let v799 : BitVec 1 := Scalar.xori v797 v798
  let c0_i32_480 : BitVec 32 := 0#32
  let v796 : BitVec 1 := Scalar.cmpi .ne v795 c0_i32_480
  let v800 : BitVec 1 := Scalar.andi v799 v796
  let v801 : BitVec 32 := Scalar.addi v795 v794
  let v802 : BitVec 32 := Scalar.select v800 v801 v795
  ![v802.toNat]
def k0_off9 (d0 : Dev nD) (c1_i32_476 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v792 : BitVec 32 := Scalar.addi v2 c1_i32_476
  let c16_i32_477 : BitVec 32 := 16#32
  let c0_i32_478 : BitVec 32 := 0#32
  let v793 : BitVec 1 := Scalar.cmpi .eq c16_i32_477 c0_i32_478
  let c1_i32_479 : BitVec 32 := 1#32
  let v794 : BitVec 32 := Scalar.select v793 c1_i32_479 c16_i32_477
  let v795 : BitVec 32 := Scalar.remsi v792 v794
  let c0_i32_481 : BitVec 32 := 0#32
  let v797 : BitVec 1 := Scalar.cmpi .slt v795 c0_i32_481
  let c0_i32_482 : BitVec 32 := 0#32
  let v798 : BitVec 1 := Scalar.cmpi .slt v794 c0_i32_482
  let v799 : BitVec 1 := Scalar.xori v797 v798
  let c0_i32_480 : BitVec 32 := 0#32
  let v796 : BitVec 1 := Scalar.cmpi .ne v795 c0_i32_480
  let v800 : BitVec 1 := Scalar.andi v799 v796
  let v801 : BitVec 32 := Scalar.addi v795 v794
  let v802 : BitVec 32 := Scalar.select v800 v801 v795
  let c256_i32_483 : BitVec 32 := 256#32
  let v803 : BitVec 32 := Scalar.muli v802 c256_i32_483
  let c0_i32_487 : BitVec 32 := 0#32
  ![v803.toNat, 0]
def k0_off10 (d0 : Dev nD) (c1_i32_476 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v792 : BitVec 32 := Scalar.addi v2 c1_i32_476
  let c16_i32_477 : BitVec 32 := 16#32
  let c0_i32_478 : BitVec 32 := 0#32
  let v793 : BitVec 1 := Scalar.cmpi .eq c16_i32_477 c0_i32_478
  let c1_i32_479 : BitVec 32 := 1#32
  let v794 : BitVec 32 := Scalar.select v793 c1_i32_479 c16_i32_477
  let v795 : BitVec 32 := Scalar.remsi v792 v794
  let c0_i32_481 : BitVec 32 := 0#32
  let v797 : BitVec 1 := Scalar.cmpi .slt v795 c0_i32_481
  let c0_i32_482 : BitVec 32 := 0#32
  let v798 : BitVec 1 := Scalar.cmpi .slt v794 c0_i32_482
  let v799 : BitVec 1 := Scalar.xori v797 v798
  let c0_i32_480 : BitVec 32 := 0#32
  let v796 : BitVec 1 := Scalar.cmpi .ne v795 c0_i32_480
  let v800 : BitVec 1 := Scalar.andi v799 v796
  let v801 : BitVec 32 := Scalar.addi v795 v794
  let v802 : BitVec 32 := Scalar.select v800 v801 v795
  let c256_i32_490 : BitVec 32 := 256#32
  let v810 : BitVec 32 := Scalar.muli v802 c256_i32_490
  let v811 : Index := Scalar.indexCast v810
  let c0_491 : Index := 0#32
  ![v811.toNat, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Uniform.lean ====
/- The kernel body as one program uniform in the distance between two devices.

   The printed body writes its fifteen signals, fifteen products sent away, fifteen blocks received
   and fifteen waits for a send out one after another. Here each of the four is one definition with
   the distance as a parameter, the body is four runs over the list of distances, and the printed
   body is shown to be that program. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds

@[expose] public section

noncomputable section

namespace Cert.KernelIdeal.A2A

open Cert.KernelIdeal Cert.KernelIdeal.Gen
open Idealize.ShloMosaic Idealize.ShloMosaic.TcCoe
open Idealize.SL Idealize.SL.Sem

variable {F : FTy → Type} [FloatOps F]

/-- The distances 1 … 15, each written as its predecessor. -/
abbrev hops : List (Fin 15) := [0, 1, 2, 3, 4, 5, 6, 7, 8, 9, 10, 11, 12, 13, 14]

/-- The word of the distance `1 + r`. -/
abbrev word (r : Fin 15) : BitVec 32 := BitVec.ofNat 32 (1 + r.val)

/-- The device at distance `1 + r` from `c`, around the ring of devices. -/
def dst (c : Dev nD) (r : Fin 15) : Dev nD := ⟨(c.val + (1 + r.val)) % 16, Nat.mod_lt _ (by decide)⟩

/-- The device the signal at distance `1 + r` names, as printed. -/
def sigDev (d : Dev nD) : Fin 15 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩

/-- The device the copy at distance `1 + r` goes to, as printed. -/
def cpyDev (d : Dev nD) : Fin 15 → Dev nD
  | 0 => ⟨k0_dev16 d, k0_dev16_lt d⟩ | 1 => ⟨k0_dev17 d, k0_dev17_lt d⟩ | 2 => ⟨k0_dev18 d, k0_dev18_lt d⟩
  | 3 => ⟨k0_dev19 d, k0_dev19_lt d⟩ | 4 => ⟨k0_dev20 d, k0_dev20_lt d⟩ | 5 => ⟨k0_dev21 d, k0_dev21_lt d⟩
  | 6 => ⟨k0_dev22 d, k0_dev22_lt d⟩ | 7 => ⟨k0_dev23 d, k0_dev23_lt d⟩ | 8 => ⟨k0_dev24 d, k0_dev24_lt d⟩
  | 9 => ⟨k0_dev25 d, k0_dev25_lt d⟩ | 10 => ⟨k0_dev26 d, k0_dev26_lt d⟩ | 11 => ⟨k0_dev27 d, k0_dev27_lt d⟩
  | 12 => ⟨k0_dev28 d, k0_dev28_lt d⟩ | 13 => ⟨k0_dev29 d, k0_dev29_lt d⟩ | 14 => ⟨k0_dev30 d, k0_dev30_lt d⟩

/-- The device a signal names is the one at its distance; -/
theorem sigDev_eq : ∀ (d : Dev nD) (r : Fin 15), sigDev d r = dst d r := by decide +kernel
/-- so is the device a copy goes to. -/
theorem cpyDev_eq : ∀ (d : Dev nD) (r : Fin 15), cpyDev d r = dst d r := by decide +kernel

/-- The semaphore of the handshake. -/
abbrev barSem : Sem sig := (SemArray.scalar (sig.barrier 0 rfl) : Sems sig S_).sem

/-- The semaphore that counts what is sent over the distance `1 + r`, as printed. -/
def sendSem (r : Fin 15) : DmaSem sig :=
  ((cc0_scratch3.slice (Rect.unit (s := S16) ![1 + r.val] S1.size (by revert r; decide))).squeeze S_ squeezes_S1_S_).sem

/-- The semaphore, on a peer, that counts what device `d` sends, as printed. -/
def mineSem (d : Dev nD) : DmaSem sig :=
  ((cc0_scratch4.slice (Rect.unit (s := S16) (k0_off3 d) S1.size (k0_off3_inb d))).squeeze S_ squeezes_S1_S_).sem

/-- The semaphore, on device `d`, that counts what arrives from the distance `1 + r`, as printed. -/
def fromSem (d : Dev nD) (r : Fin 15) : DmaSem sig :=
  ((cc0_scratch4.slice (Rect.unit (s := S16) (k0_off8 d (word r)) S1.size (k0_off8_inb d r))).squeeze S_ squeezes_S1_S_).sem

/-- Send semaphore `k`: place `5 + k` among the DMA semaphores. -/
def sendS (k : Dev nD) : DmaSem sig := ⟨5 + k.val, Nat.lt_of_lt_of_le (Nat.add_lt_add_left k.isLt 5) (by decide)⟩

/-- Receive semaphore `k`: place `21 + k` among the DMA semaphores. -/
def recvS (k : Dev nD) : DmaSem sig := ⟨21 + k.val, Nat.lt_of_lt_of_le (Nat.add_lt_add_left k.isLt 21) (by decide)⟩

/-- The distance `1 + r` as the number of a send semaphore. -/
abbrev leg (r : Fin 15) : Dev nD := dst ⟨0, by decide⟩ r

/-- The send semaphore printed is the one of the distance's number, -/
theorem sendSem_eq : ∀ r : Fin 15, sendSem r = sendS (leg r) := by decide +kernel
/-- a copy counts on the receive semaphore of the sender's number, -/
theorem mineSem_eq : ∀ d : Dev nD, mineSem d = recvS d := by decide +kernel
/-- and a wait is for that of the device at its distance. -/
theorem fromSem_eq : ∀ (d : Dev nD) (r : Fin 15), fromSem d r = recvS (dst d r) := by decide +kernel

/-! ## Column blocks and row blocks

Column block `j` of the weight and of the send buffer is meant for device `j`; row block `j` of the receive buffer and of
the result is device `j`'s. -/

/-- The corner of column block `j`, -/
abbrev colOff (j : Dev nD) : Fin 2 → Nat := ![0, 128 * j.val]
/-- and of row block `j`. -/
abbrev rowOff (j : Dev nD) : Fin 2 → Nat := ![256 * j.val, 0]

/-- A column block lies inside the weight, -/
theorem wcol_inb : ∀ j : Dev nD, ∀ a, colOff j a + S4096x128.size a ≤ S4096x2048.size a := by decide +kernel
/-- and inside the send buffer; -/
theorem col_inb : ∀ j : Dev nD, ∀ a, colOff j a + S256x128.size a ≤ S256x2048.size a := by decide +kernel
/-- a row block lies inside the receive buffer and the result. -/
theorem row_inb : ∀ j : Dev nD, ∀ a, rowOff j a + S256x128.size a ≤ S4096x128.size a := by decide +kernel
/-- A column block's rows are packed, -/
theorem col_packed : ∀ j : Dev nD, (Rect.unit (s := S256x2048) (colOff j) S256x128.size (col_inb j)).PackedRows (EltTy.packing .bf16) := by decide +kernel
/-- it is made of whole words, -/
theorem col_words : ∀ j : Dev nD, (Rect.unit (s := S256x2048) (colOff j) S256x128.size (col_inb j)).WholeWords (EltTy.packing .bf16) := by decide +kernel
/-- and so is a row block. -/
theorem row_words : ∀ j : Dev nD, (Rect.unit (s := S4096x128) (rowOff j) S256x128.size (row_inb j)).WholeWords (EltTy.packing .bf16) := by decide +kernel

/-- The columns loaded, as printed, are those of the device at the distance; -/
theorem off1_eq : ∀ (d : Dev nD) (r : Fin 15), k0_off1 d (word r) = colOff (dst d r) := by decide +kernel
/-- so are the columns stored, -/
theorem off2_eq : ∀ (d : Dev nD) (r : Fin 15), k0_off2 d (word r) = colOff (dst d r) := by decide +kernel
/-- and those copied from. -/
theorem off5_eq : ∀ (d : Dev nD) (r : Fin 15), k0_off5 d (word r) = colOff (dst d r) := by decide +kernel
/-- The rows waited for, as printed, are those of the device at the distance; -/
theorem off9_eq : ∀ (d : Dev nD) (r : Fin 15), k0_off9 d (word r) = rowOff (dst d r) := by decide +kernel
/-- so are the rows read. -/
theorem off10_eq : ∀ (d : Dev nD) (r : Fin 15), k0_off10 d (word r) = rowOff (dst d r) := by decide +kernel

/-- Column block `j` of the weight. -/
abbrev wcolRect (j : Dev nD) : Rect S4096x2048 := Rect.unit (s := S4096x2048) (colOff j) S4096x128.size (wcol_inb j)
/-- Column block `j` of the send buffer. -/
abbrev colRect (j : Dev nD) : Rect S256x2048 := Rect.unit (s := S256x2048) (colOff j) S256x128.size (col_inb j)
/-- Row block `j`. -/
abbrev rowRect (j : Dev nD) : Rect S4096x128 := Rect.unit (s := S4096x128) (rowOff j) S256x128.size (row_inb j)
/-- All the rows of a device. -/
abbrev xRect : Rect S256x4096 := Rect.unit (s := S256x4096) ![0, 0] S256x4096.size inb_S256x4096_S256x4096_0_0
/-- The one element of a scale. -/
abbrev oneRect : Rect S1 := Rect.unit (s := S1) ![0] S1.size inb_S1_S1_0

/-! ## The values -/

/-- The product of a row block with a column block, scaled, made nonnegative and rounded: what is sent. -/
abbrev sent (s : F .f32) (w : Vec F S4096x128 .fp8e5m2) (x : Vec F S256x4096 .bf16) : FVec F S256x128 .bf16 := k0_pay24 s w x

/-- The same product kept at full width: the block a device keeps for itself. -/
abbrev kept (s : F .f32) (w : Vec F S4096x128 .fp8e5m2) (x : Vec F S256x4096 .bf16) : FVec F S256x128 .f32 := k0_pay25 s w x

/-- A received block at full width. -/
abbrev widened (v : Vec F S256x128 .bf16) : FVec F S256x128 .f32 := k0_pay40 v

/-- The program of one core of device `d`. -/
abbrev TcProg (F : FTy → Type) := Prog (TpuEff nD τ sig (Elt F) Λ₀ .tc) PUnit

/-- The signals over the distances listed. -/
def signals (d : Dev nD) : List (Fin 15) → TcProg F → TcProg F
  | [], k => k
  | r :: rs, k => do
      semSignalWord (sigDev d r) barSem 1#32
      signals d rs k

/-- One product computed and sent: load a column block of the weight (at `o₁`), multiply, put the result into a column
    block of the send buffer (at `o₂`), and start the copy of that block (at `o₃`) to a row block (at `o₄`) of the receive
    buffer of device `p`. -/
def sendAt (o₁ : Fin 2 → Nat) (h₁ : ∀ a, o₁ a + S4096x128.size a ≤ S4096x2048.size a)
    (o₂ : Fin 2 → Nat) (h₂ : ∀ a, o₂ a + S256x128.size a ≤ S256x2048.size a)
    (p₂ : (Rect.unit (s := S256x2048) o₂ S256x128.size h₂).PackedRows (EltTy.packing .bf16))
    (o₃ : Fin 2 → Nat) (h₃ : ∀ a, o₃ a + S256x128.size a ≤ S256x2048.size a)
    (w₃ : (Rect.unit (s := S256x2048) o₃ S256x128.size h₃).WholeWords (EltTy.packing .bf16))
    (o₄ : Fin 2 → Nat) (h₄ : ∀ a, o₄ a + S256x128.size a ≤ S4096x128.size a)
    (w₄ : (Rect.unit (s := S4096x128) o₄ S256x128.size h₄).WholeWords (EltTy.packing .bf16))
    (p : Dev nD) (sS sR : DmaSem sig) (s : F .f32) (k : TcProg F) : TcProg F := do
  let w : Vec F S4096x128 .fp8e5m2 ← Prog.lift (.load (Memref.whole cc0_stg1_0) (Rect.unit (s := S4096x2048) o₁ S4096x128.size h₁).toLoadRect (View.loadsAt_vmem h_S4096x128))
  let x : Vec F S256x4096 .bf16 ← Prog.lift (.load (Memref.whole cc0_scratch0) xRect.toLoadRect (View.loadsAt_vmem h_S256x4096))
  let _ : Vec F S256x128 .bf16 ← Prog.lift (.load (Memref.whole cc0_scratch1) (Rect.unit (s := S256x2048) o₂ S256x128.size h₂).toLoadRect (View.loadsAt_vmem h_S256x128))
  Prog.lift (.store (Memref.whole cc0_scratch1) (Rect.unit (s := S256x2048) o₂ S256x128.size h₂) (sent s w x) Finset.univ
    (View.stores_vmem h_S256x128 ((Memref.isWhole_whole cc0_scratch1).storeExact_slice rfl _ p₂) (fun _ => rfl)) (.inl rfl))
  Prog.lift (.enqueueDma ((Memref.whole cc0_scratch1).slice (Rect.unit (s := S256x2048) o₃ S256x128.size h₃) (fun _ => rfl))
    (.remote (Dev.tc p) ((Memref.whole cc0_scratch2).slice (Rect.unit (s := S4096x128) o₄ S256x128.size h₄) (fun _ => rfl)) (.dma sS)) (.dma sR)
    ((Memref.isWhole_whole cc0_scratch1).wordExact_slice rfl _ w₃) ((Memref.isWhole_whole cc0_scratch2).wordExact_slice rfl _ w₄)
    ⟨⟨rfl, Or.inl rfl⟩, trivial⟩)
  k

/-- The product sent over the distance `1 + r`, as printed. -/
def sendOne (d : Dev nD) (s : F .f32) (r : Fin 15) (k : TcProg F) : TcProg F :=
  sendAt (k0_off1 d (word r)) (k0_off1_inb d r) (k0_off2 d (word r)) (k0_off2_inb d r) (k0_off2_packedbf16 d r)
    (k0_off5 d (word r)) (k0_off5_inb d r) (k0_off5_wordsbf16 d r) (k0_off4 d) (k0_off4_inb d) (k0_off4_wordsbf16 d)
    (cpyDev d r) (sendSem r) (mineSem d) s k

/-- It is column block `j` of the product, sent to device `j`, for `j` at distance `1 + r`. -/
theorem sendOne_eq (d : Dev nD) (s : F .f32) (r : Fin 15) (k : TcProg F) :
    sendOne d s r k = sendAt (colOff (dst d r)) (wcol_inb _) (colOff (dst d r)) (col_inb _) (col_packed _)
      (colOff (dst d r)) (col_inb _) (col_words _) (rowOff d) (row_inb _) (row_words _) (dst d r) (sendS (leg r)) (recvS d) s k := by
  unfold sendOne
  simp only [off1_eq, off2_eq, off5_eq, k0_off4_eq, cpyDev_eq, sendSem_eq, mineSem_eq]

/-- The products sent over the distances listed. -/
def sends (d : Dev nD) (s : F .f32) : List (Fin 15) → TcProg F → TcProg F
  | [], k => k
  | r :: rs, k => sendOne d s r (sends d s rs k)

/-- One block received: wait for it, and put it at full width into its rows of the result. -/
def recvAt (o₁ : Fin 2 → Nat) (h₁ : ∀ a, o₁ a + S256x128.size a ≤ S4096x128.size a)
    (w₁ : (Rect.unit (s := S4096x128) o₁ S256x128.size h₁).WholeWords (EltTy.packing .bf16))
    (o₂ : Fin 2 → Nat) (h₂ : ∀ a, o₂ a + S256x128.size a ≤ S4096x128.size a) (sR : DmaSem sig) (k : TcProg F) : TcProg F := do
  Prog.lift (.waitDma2 sR ((Memref.whole cc0_scratch1).slice (Rect.unit (s := S256x2048) ![0, 0] S256x128.size inb_S256x2048_S256x128_0_0) (fun _ => rfl))
    ((Memref.whole cc0_scratch2).slice (Rect.unit (s := S4096x128) o₁ S256x128.size h₁) (fun _ => rfl))
    ((Memref.isWhole_whole cc0_scratch1).wordExact_slice rfl _ wordsbf16_S256x2048_S256x128_0_0)
    ((Memref.isWhole_whole cc0_scratch2).wordExact_slice rfl _ w₁))
  let v : Vec F S256x128 .bf16 ← Prog.lift (.load (Memref.whole cc0_scratch2) (Rect.unit (s := S4096x128) o₂ S256x128.size h₂).toLoadRect (View.loadsAt_vmem h_S256x128))
  let _ : Vec F S256x128 .f32 ← Prog.lift (.load (Memref.whole cc0_stg4_0) (Rect.unit (s := S4096x128) o₂ S256x128.size h₂).toLoadRect (View.loadsAt_vmem h_S256x128))
  Prog.lift (.store (Memref.whole cc0_stg4_0) (Rect.unit (s := S4096x128) o₂ S256x128.size h₂) (widened v) Finset.univ (View.stores_vmem_bits_univ h_S256x128 rfl) (.inl rfl))
  k

/-- The block received over the distance `1 + r`, as printed. -/
def recvOne (d : Dev nD) (r : Fin 15) (k : TcProg F) : TcProg F :=
  recvAt (k0_off9 d (word r)) (k0_off9_inb d r) (k0_off9_wordsbf16 d r) (k0_off10 d (word r)) (k0_off10_inb d r) (fromSem d r) k

/-- It is row block `j`, for `j` at distance `1 + r`. -/
theorem recvOne_eq (d : Dev nD) (r : Fin 15) (k : TcProg F) :
    recvOne d r k = recvAt (rowOff (dst d r)) (row_inb _) (row_words _) (rowOff (dst d r)) (row_inb _) (recvS (dst d r)) k := by
  unfold recvOne
  simp only [off9_eq, off10_eq, fromSem_eq]

/-- The blocks received over the distances listed. -/
def recvs (d : Dev nD) : List (Fin 15) → TcProg F → TcProg F
  | [], k => k
  | r :: rs, k => recvOne d r (recvs d rs k)

/-- One wait for a send. -/
def drainAt (o₁ : Fin 2 → Nat) (h₁ : ∀ a, o₁ a + S256x128.size a ≤ S256x2048.size a)
    (w₁ : (Rect.unit (s := S256x2048) o₁ S256x128.size h₁).WholeWords (EltTy.packing .bf16))
    (o₂ : Fin 2 → Nat) (h₂ : ∀ a, o₂ a + S256x128.size a ≤ S4096x128.size a)
    (w₂ : (Rect.unit (s := S4096x128) o₂ S256x128.size h₂).WholeWords (EltTy.packing .bf16)) (sS : DmaSem sig) (k : TcProg F) : TcProg F := do
  Prog.lift (.waitDma2 sS ((Memref.whole cc0_scratch2).slice (Rect.unit (s := S4096x128) o₂ S256x128.size h₂) (fun _ => rfl))
    ((Memref.whole cc0_scratch1).slice (Rect.unit (s := S256x2048) o₁ S256x128.size h₁) (fun _ => rfl))
    ((Memref.isWhole_whole cc0_scratch2).wordExact_slice rfl _ w₂) ((Memref.isWhole_whole cc0_scratch1).wordExact_slice rfl _ w₁))
  k

/-- The wait for the send over the distance `1 + r`, as printed. -/
def drainOne (d : Dev nD) (r : Fin 15) (k : TcProg F) : TcProg F :=
  drainAt (k0_off5 d (word r)) (k0_off5_inb d r) (k0_off5_wordsbf16 d r) (k0_off4 d) (k0_off4_inb d) (k0_off4_wordsbf16 d) (sendSem r) k

/-- It waits for column block `j`, for `j` at distance `1 + r`. -/
theorem drainOne_eq (d : Dev nD) (r : Fin 15) (k : TcProg F) :
    drainOne d r k = drainAt (colOff (dst d r)) (col_inb _) (col_words _) (rowOff d) (row_inb _) (row_words _) (sendS (leg r)) k := by
  unfold drainOne
  simp only [off5_eq, k0_off4_eq, sendSem_eq]

/-- The waits for the sends over the distances listed. -/
def drains (d : Dev nD) : List (Fin 15) → TcProg F → TcProg F
  | [], k => k
  | r :: rs, k => drainOne d r (drains d rs k)

/-- The rows a device keeps for itself. -/
def keepAt (o₁ : Fin 2 → Nat) (h₁ : ∀ a, o₁ a + S4096x128.size a ≤ S4096x2048.size a)
    (o₂ : Fin 2 → Nat) (h₂ : ∀ a, o₂ a + S256x128.size a ≤ S4096x128.size a) (s : F .f32) (k : TcProg F) : TcProg F := do
  let w : Vec F S4096x128 .fp8e5m2 ← Prog.lift (.load (Memref.whole cc0_stg1_0) (Rect.unit (s := S4096x2048) o₁ S4096x128.size h₁).toLoadRect (View.loadsAt_vmem h_S4096x128))
  let x : Vec F S256x4096 .bf16 ← Prog.lift (.load (Memref.whole cc0_scratch0) xRect.toLoadRect (View.loadsAt_vmem h_S256x4096))
  let _ : Vec F S256x128 .f32 ← Prog.lift (.load (Memref.whole cc0_stg4_0) (Rect.unit (s := S4096x128) o₂ S256x128.size h₂).toLoadRect (View.loadsAt_vmem h_S256x128))
  Prog.lift (.store (Memref.whole cc0_stg4_0) (Rect.unit (s := S4096x128) o₂ S256x128.size h₂) (kept s w x) Finset.univ (View.stores_vmem_bits_univ h_S256x128 rfl) (.inl rfl))
  k

/-- The rows device `d` keeps, as printed. -/
def keepOne (d : Dev nD) (s : F .f32) (k : TcProg F) : TcProg F :=
  keepAt (k0_off6 d) (k0_off6_inb d) (k0_off7 d) (k0_off7_inb d) s k

/-- They are column block `d` of the product, at row block `d` of the result. -/
theorem keepOne_eq (d : Dev nD) (s : F .f32) (k : TcProg F) :
    keepOne d s k = keepAt (colOff d) (wcol_inb _) (rowOff d) (row_inb _) s k := by
  unfold keepOne
  simp only [k0_off6_eq, k0_off7_eq]

/-- The scale and the row block at the narrower width, read once. -/
def prepare (k : F .f32 → TcProg F) : TcProg F := do
  let a : Elt F .f32 ← smemLoad (Memref.whole cc0_stg2_0) oneRect numel1_S1 rfl
  let b : Elt F .f32 ← smemLoad (Memref.whole cc0_stg3_0) oneRect numel1_S1 rfl
  let x : Vec F S256x4096 .fp8e5m2 ← Prog.lift (.load (Memref.whole cc0_stg0_0) xRect.toLoadRect (View.loadsAt_vmem h_S256x4096))
  let _ ← Prog.lift (.load (Memref.whole cc0_scratch0) xRect.toLoadRect (View.loadsAt_vmem h_S256x4096))
  Prog.lift (.store (Memref.whole cc0_scratch0) xRect (k0_pay2 x) Finset.univ
    (View.stores_vmem h_S256x4096 ((Memref.isWhole_whole cc0_scratch0).storeExact_slice rfl _ packedbf16_S256x4096_S256x4096_0_0) (fun _ => rfl)) (.inl rfl))
  k (k0_pay1 a b)

/-- The body of the call on device `d`. -/
def program (d : Dev nD) : TcProg F :=
  signals d hops (do
    semWaitWord barSem 15#32
    prepare fun s => sends d s hops (keepOne d s (recvs d hops (drains d hops (pure ⟨⟩)))))

set_option maxRecDepth 65536 in
/-- The printed body reads its device and runs `program` of it. -/
theorem body_eq : cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4
    = (do let d : Dev nD ← Prog.lift .deviceId
          program d) := by
  rw [cc0_body_eq_skeleton]
  rfl

end Cert.KernelIdeal.A2A
-- ==== Proof.KernelIdeal.Blocks.lean ====
/- Who hands what to whom.

   The buffers a device shares are cut into sixteen blocks, one for each device. A device lends, with its handshake
   signal to a peer, the row block of its receive buffer that the peer will fill; the peer's copy brings that block back
   filled, on the receive semaphore of that number, and brings the column block it was copied from back to the
   sender, on the send semaphore of that distance. This module names the blocks, says what each holds, and lays down that
   exchange as a schedule of rounds with one round for each semaphore. -/
module

public import proofs.«01_k».proof.Proof.KernelIdeal.Uniform
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: those of the pipeline, and rounds whose duties are named by devices -/

/-- The rounds of the protocol, their duties named by devices. -/
abbrev UB : Type := URounds (GSem nD τ sig) (Dev nD)
/-- The resources of the proof: the pipeline's and the rounds. -/
abbrev UU : Type := UR sig nD τ × UB

local notation "𝕄" => MT nD τ sig Unit (Elt F) ℕ UU ℕ

/-- Where the pipeline's resources lie. -/
abbrev EP : Emb (UR sig nD τ) (MT nD τ sig Unit (Elt F) ℕ UU ℕ) := embL
/-- Where the rounds lie. -/
abbrev ER : Emb UB (MT nD τ sig Unit (Elt F) ℕ UU ℕ) := embR

/-- No loop of the program runs for an unknown time. -/
abbrev 𝒱₀ : Variants := Variants.none

variable (m : (ℓ : Loc nD τ sig) → Buf (Elt F) ℓ) (ρ : Dev nD → PrngReg)

/-- The memory at launch: any contents, all semaphores at zero, any generator registers. -/
def s₀ : MemSt nD τ sig (Elt F) := ⟨m, fun _ => 0, ρ⟩

/-! ## The other devices, as seen from one -/

/-- A device at distance 1 … 15 is another device. -/
theorem dst_ne : ∀ (c : Dev nD) (r : Fin 15), dst c r ≠ c := by decide +kernel
/-- Different distances lead to different devices. -/
theorem dst_injective : ∀ c : Dev nD, Function.Injective (dst c) := by
  intro c r r' h
  have h1 : (c.val + (1 + r.val)) % 16 = (c.val + (1 + r'.val)) % 16 := congrArg Fin.val h
  have hc : c.val < 16 := c.isLt
  exact Fin.ext (by omega)
/-- The other devices are those at the distances 1 … 15. -/
theorem others_eq (c : Dev nD) : (Finset.univ : Finset (Dev nD)).erase c = Finset.univ.map ⟨dst c, dst_injective c⟩ := by
  revert c; decide +kernel

/-- Everything there is one of for each device is that of `c` and those of the devices at the distances 1 … 15 from `c`. -/
theorem bigSep_around (c : Dev nD) (Φ : Dev nD → sProp 𝕄) :
    bigSep Finset.univ Φ = iprop(Φ c ∗ bigSepL hops fun r => Φ (dst c r)) := by
  rw [bigSep_erase (Finset.mem_univ c), others_eq, bigSep_map, bigSep_univ_eq_bigSepL hops (by decide) (by decide)]
  rfl
/-- What there is one of for each other device, listed by distance. -/
theorem bigSep_others (c : Dev nD) (Φ : Dev nD → sProp 𝕄) :
    bigSep (Finset.univ.erase c) Φ = bigSepL hops fun r => Φ (dst c r) := by
  rw [others_eq, bigSep_map, bigSep_univ_eq_bigSepL hops (by decide) (by decide)]
  rfl

/-! ## The blocks -/

/-- Column block `j` of the send buffer. -/
abbrev colM (j : Dev nD) : Memref sig .tc .vmem S256x128 .bf16 := (Memref.whole cc0_scratch1).slice (colRect j) (fun _ => rfl)
/-- Row block `k` of the receive buffer. -/
abbrev rowM (k : Dev nD) : Memref sig .tc .vmem S256x128 .bf16 := (Memref.whole cc0_scratch2).slice (rowRect k) (fun _ => rfl)
/-- Row block `k` of the result. -/
abbrev outM (k : Dev nD) : Memref sig .tc .vmem S256x128 .f32 := (Memref.whole cc0_stg4_0).slice (rowRect k) (fun _ => rfl)

/-- Two column blocks of the send buffer share no element. -/
theorem col_disjoint (j j' : Dev nD) (h : j ≠ j') : Disjoint (colRect j).set (colRect j').set := by
  refine Rect.unit_disjoint 1 ?_
  have : j.val ≠ j'.val := fun h' => h (Fin.ext h')
  show 128 * j.val + 128 ≤ 128 * j'.val ∨ 128 * j'.val + 128 ≤ 128 * j.val
  omega
/-- Two row blocks share no element. -/
theorem row_disjoint (k k' : Dev nD) (h : k ≠ k') : Disjoint (rowRect k).set (rowRect k').set := by
  refine Rect.unit_disjoint 0 ?_
  have : k.val ≠ k'.val := fun h' => h (Fin.ext h')
  show 256 * k.val + 256 ≤ 256 * k'.val ∨ 256 * k'.val + 256 ≤ 256 * k.val
  omega
/-- The sixteen column blocks are all of the send buffer. -/
theorem col_cover : (Finset.univ : Finset (Dev nD)).biUnion (fun j => (colRect j).set) = Finset.univ := by
  refine Finset.eq_univ_of_forall fun i => Finset.mem_biUnion.mpr ?_
  have h1 : (i 1).val < 2048 := (i 1).isLt
  have h0 : (i 0).val < 256 := (i 0).isLt
  refine ⟨⟨(i 1).val / 128, by show _ < 16; omega⟩, Finset.mem_univ _, Rect.mem_set_unit.mpr fun a => ?_⟩
  match a with
  | ⟨0, _⟩ => exact ⟨Nat.zero_le _, by show (i 0).val < 0 + 256; omega⟩
  | ⟨1, _⟩ => exact ⟨by show 128 * ((i 1).val / 128) ≤ (i 1).val; omega, by show (i 1).val < 128 * ((i 1).val / 128) + 128; omega⟩
/-- The sixteen row blocks are all of the receive buffer, and of the result. -/
theorem row_cover : (Finset.univ : Finset (Dev nD)).biUnion (fun k => (rowRect k).set) = Finset.univ := by
  refine Finset.eq_univ_of_forall fun i => Finset.mem_biUnion.mpr ?_
  have h1 : (i 1).val < 128 := (i 1).isLt
  have h0 : (i 0).val < 4096 := (i 0).isLt
  refine ⟨⟨(i 0).val / 256, by show _ < 16; omega⟩, Finset.mem_univ _, Rect.mem_set_unit.mpr fun a => ?_⟩
  match a with
  | ⟨0, _⟩ => exact ⟨by show 256 * ((i 0).val / 256) ≤ (i 0).val; omega, by show (i 0).val < 256 * ((i 0).val / 256) + 256; omega⟩
  | ⟨1, _⟩ => exact ⟨Nat.zero_le _, by show (i 1).val < 0 + 128; omega⟩

/-- Device `c` holds column block `j` of its send buffer, at some contents. -/
def colAny (c j : Dev nD) : sProp 𝕄 := iprop(∃ X, owns (c : Thread nD τ) (colM j) fullShare X)
/-- Device `c` holds row block `k` of its receive buffer, at the contents `X`. -/
def rowIs (c k : Dev nD) (X : FVec F S256x128 .bf16) : sProp 𝕄 := owns (c : Thread nD τ) (rowM k) fullShare X
/-- Device `c` holds row block `k` of its receive buffer, at some contents. -/
def rowAny (c k : Dev nD) : sProp 𝕄 := iprop(∃ X, owns (c : Thread nD τ) (rowM k) fullShare X)
/-- Device `c` holds row block `k` of its result, at the contents `X`. -/
def outIs (c k : Dev nD) (X : FVec F S256x128 .f32) : sProp 𝕄 := owns (c : Thread nD τ) (outM k) fullShare X
/-- Device `c` holds row block `k` of its result, at some contents. -/
def outAny (c k : Dev nD) : sProp 𝕄 := iprop(∃ X, owns (c : Thread nD τ) (outM k) fullShare X)

/-- A column block can be handed over through a semaphore. -/
instance colAny_storable (c j : Dev nD) : BI.Storable (upEmb : UEmb _ 𝕄) (colAny (F := F) c j) := by unfold colAny; infer_instance
/-- So can a row block with its contents, -/
instance rowIs_storable (c k : Dev nD) (X) : BI.Storable (upEmb : UEmb _ 𝕄) (rowIs (F := F) c k X) := by unfold rowIs; infer_instance
/-- and one at any contents. -/
instance rowAny_storable (c k : Dev nD) : BI.Storable (upEmb : UEmb _ 𝕄) (rowAny (F := F) c k) := by unfold rowAny; infer_instance

/-- A row block at given contents is one at some contents. -/
theorem rowIs_any (c k : Dev nD) (X : FVec F S256x128 .bf16) : (rowIs c k X : sProp 𝕄) ⊢ rowAny c k := by
  unfold rowIs rowAny; iintro H; iexists X; iexact H

/-- Holding a view at given contents is holding its elements at some. -/
theorem owns_pts {sp : Space} {sh : Shape} {e : EltTy} (c : Dev nD) (M : Memref sig .tc sp sh e) (X : sh.Idx → Elt F e) :
    (owns (c : Thread nD τ) M fullShare X : sProp 𝕄) ⊢ iprop(∃ f, (M.view.loc (c : Thread nD τ)) ↦[M.view.set]{fullShare} f) := by
  unfold owns; iintro ⟨%f, -, H⟩; iexists f; iexact H

/-- A column block at given contents is one at some contents; -/
theorem col_of (c j : Dev nD) (X) : (owns (c : Thread nD τ) (colM j) fullShare X : sProp 𝕄) ⊢ colAny c j := by
  unfold colAny; iintro H; iexists X; iexact H
/-- so is a row block of the receive buffer, -/
theorem row_of (c k : Dev nD) (X) : (owns (c : Thread nD τ) (rowM k) fullShare X : sProp 𝕄) ⊢ rowAny c k := by
  unfold rowAny; iintro H; iexists X; iexact H
/-- and of the result. -/
theorem out_of (c k : Dev nD) (X) : (owns (c : Thread nD τ) (outM k) fullShare X : sProp 𝕄) ⊢ outAny c k := by
  unfold outAny; iintro H; iexists X; iexact H
/-- A column block at some contents is its elements at some; -/
theorem col_pts (c j : Dev nD) : (colAny c j : sProp 𝕄) ⊢ iprop(∃ f, ((c : Thread nD τ).loc cc0_scratch1) ↦[(colM j).view.set]{fullShare} f) := by
  unfold colAny; iintro ⟨%X, H⟩
  iapply (owns_pts c (colM j) X); iexact H
/-- so is a row block. -/
theorem row_pts (c k : Dev nD) : (rowAny c k : sProp 𝕄) ⊢ iprop(∃ f, ((c : Thread nD τ).loc cc0_scratch2) ↦[(rowM k).view.set]{fullShare} f) := by
  unfold rowAny; iintro ⟨%X, H⟩
  iapply (owns_pts c (rowM k) X); iexact H

/-- The whole send buffer is its sixteen column blocks, -/
theorem col_split (c : Dev nD) (f : Buf (Elt F) ((c : Thread nD τ).loc cc0_scratch1)) :
    (((c : Thread nD τ).loc cc0_scratch1) ↦{fullShare} f : sProp 𝕄) ⊢ bigSep Finset.univ (colAny c) := by
  have h := pointsTo_rects (Ix := Unit) (Name := ℕ) (U := UU) (Lvl := ℕ) (c : Thread nD τ) (Memref.whole cc0_scratch1) fullShare
    colRect (fun _ _ => rfl) col_disjoint col_cover f
  simp only [Memref.view_whole, View.set_whole] at h
  exact (Entails.of_eq h).trans (bigSep_mono fun j _ => col_of c j _)
/-- the whole receive buffer is its sixteen row blocks, -/
theorem row_split (c : Dev nD) (f : Buf (Elt F) ((c : Thread nD τ).loc cc0_scratch2)) :
    (((c : Thread nD τ).loc cc0_scratch2) ↦{fullShare} f : sProp 𝕄) ⊢ bigSep Finset.univ (rowAny c) := by
  have h := pointsTo_rects (Ix := Unit) (Name := ℕ) (U := UU) (Lvl := ℕ) (c : Thread nD τ) (Memref.whole cc0_scratch2) fullShare
    rowRect (fun _ _ => rfl) row_disjoint row_cover f
  simp only [Memref.view_whole, View.set_whole] at h
  exact (Entails.of_eq h).trans (bigSep_mono fun j _ => row_of c j _)
/-- and so is the whole result. -/
theorem out_split (c : Dev nD) (f : Buf (Elt F) ((c : Thread nD τ).loc cc0_stg4_0)) :
    (((c : Thread nD τ).loc cc0_stg4_0) ↦{fullShare} f : sProp 𝕄) ⊢ bigSep Finset.univ (outAny c) := by
  have h := pointsTo_rects (Ix := Unit) (Name := ℕ) (U := UU) (Lvl := ℕ) (c : Thread nD τ) (Memref.whole cc0_stg4_0) fullShare
    rowRect (fun _ _ => rfl) row_disjoint row_cover f
  simp only [Memref.view_whole, View.set_whole] at h
  exact (Entails.of_eq h).trans (bigSep_mono fun j _ => out_of c j _)

/-- The sixteen column blocks together are the whole send buffer again, -/
theorem col_join (c : Dev nD) :
    bigSep Finset.univ (colAny c) ⊢ (iprop(∃ f, ((c : Thread nD τ).loc cc0_scratch1) ↦{fullShare} f) : sProp 𝕄) := by
  refine (bigSep_mono fun j _ => col_pts c j).trans (Ring.pointsTo_blocks_join_exists (ℓ := (c : Thread nD τ).loc cc0_scratch1) (fun j => (colM j).view.set)
    (fun j j' h => by rw [View.set_slice, View.set_slice]; exact (Finset.disjoint_map _).mpr (col_disjoint j j' h)) ?_ (fun _ => default))
  · refine Eq.trans ?_ col_cover
    exact Finset.biUnion_congr rfl fun j _ => View.set_slice_whole _ _
/-- and the sixteen row blocks the whole receive buffer. -/
theorem row_join (c : Dev nD) :
    bigSep Finset.univ (rowAny c) ⊢ (iprop(∃ f, ((c : Thread nD τ).loc cc0_scratch2) ↦{fullShare} f) : sProp 𝕄) := by
  refine (bigSep_mono fun j _ => row_pts c j).trans (Ring.pointsTo_blocks_join_exists (ℓ := (c : Thread nD τ).loc cc0_scratch2) (fun j => (rowM j).view.set)
    (fun j j' h => by rw [View.set_slice, View.set_slice]; exact (Finset.disjoint_map _).mpr (row_disjoint j j' h)) ?_ (fun _ => default))
  · refine Eq.trans ?_ row_cover
    exact Finset.biUnion_congr rfl fun j _ => View.set_slice_whole _ _

end Cert.KernelIdeal.A2A
-- ==== Proof.KernelIdeal.Schedule.lean ====
/- Who hands what to whom.

   A device lends, with its handshake signal to a peer, the row block of its receive buffer that the peer will fill. The
   peer's copy brings that block back filled, on the receive semaphore of the peer's number, and brings the column block it
   was copied from back to the peer, on the send semaphore of the distance. This module says what each block holds and
   lays that exchange down as a schedule of rounds, one round for each semaphore; then it says what each device owes and
   why it may wait where it waits. -/
module

public import proofs.«01_k».proof.Proof.KernelIdeal.Blocks

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The rows of `x` device `c` is given, staged. -/
def xstg (c : Dev nD) : (cc0_stg0_0 : Ref sig .tc).ty.Contents (Elt F) :=
  (win0_0.blk (0 : Fin 1)).view.read (Elt F) ((s₀ m ρ).mem ((c : Thread nD τ).loc main_arg0))
/-- The weight as device `c` has it, staged. -/
def wstg (c : Dev nD) : (cc0_stg1_0 : Ref sig .tc).ty.Contents (Elt F) :=
  (win0_1.blk (0 : Fin 1)).view.read (Elt F) ((s₀ m ρ).mem ((c : Thread nD τ).loc main_arg1))
/-- The first scale as device `c` has it, staged. -/
def astg (c : Dev nD) : (cc0_stg2_0 : Ref sig .tc).ty.Contents (Elt F) :=
  (win0_2.blk (0 : Fin 1)).view.read (Elt F) ((s₀ m ρ).mem ((c : Thread nD τ).loc main_arg2))
/-- The second scale as device `c` has it, staged. -/
def bstg (c : Dev nD) : (cc0_stg3_0 : Ref sig .tc).ty.Contents (Elt F) :=
  (win0_3.blk (0 : Fin 1)).view.read (Elt F) ((s₀ m ρ).mem ((c : Thread nD τ).loc main_arg3))

/-- The one index of a buffer of one element. -/
abbrev one : (oneRect).shape.Idx := Shape.Idx.first (numel1_S1.symm ▸ Nat.one_pos)

/-- The product of the two scales on device `c`. -/
def scale (c : Dev nD) : F .f32 :=
  k0_pay1 (((Memref.whole cc0_stg2_0).access oneRect).read (Elt F) (astg m ρ c) one)
    (((Memref.whole cc0_stg3_0).access oneRect).read (Elt F) (bstg m ρ c) one)
/-- Device `c`'s rows of `x`, at the width the product is taken at. -/
def narrow (c : Dev nD) : FVec F S256x4096 .bf16 := k0_pay2 (xstg m ρ c)
/-- Column block `j` of the weight on device `c`. -/
def wcol (c j : Dev nD) : Vec F S4096x128 .fp8e5m2 :=
  (Memref.whole cc0_stg1_0).view.readAt (Elt F) (wcolRect j).toLoadRect (wstg m ρ c)
/-- What device `c` sends device `j`: column block `j` of its product, rounded. -/
def tile (c j : Dev nD) : FVec F S256x128 .bf16 := sent (scale m ρ c) (wcol m ρ c j) (narrow m ρ c)
/-- What device `c` keeps of its product. -/
def mine (c : Dev nD) : FVec F S256x128 .f32 := kept (scale m ρ c) (wcol m ρ c c) (narrow m ρ c)
/-- Row block `k` of the result on device `c`. -/
def outBlk (c k : Dev nD) : FVec F S256x128 .f32 := if k = c then mine m ρ c else widened (tile m ρ k c)
/-- The row block an index of the result lies in, -/
def blkOf (i : S4096x128.Idx) : Dev nD := ⟨(i 0).val / 256, by
  have : (i 0).val < 4096 := (i 0).isLt
  show _ < 16
  omega⟩
/-- and where in that block it lies. -/
def inBlk (i : S4096x128.Idx) : S256x128.Idx := fun a => match a with
  | ⟨0, _⟩ => ⟨(i 0).val % 256, Nat.mod_lt _ (by decide)⟩
  | ⟨1, _⟩ => ⟨(i 1).val, (i 1).isLt⟩
/-- The result on device `c`: row `i` is row `i % 256` of row block `i / 256`. -/
def outAt (c : Dev nD) : (cc0_stg4_0 : Ref sig .tc).ty.Contents (Elt F) := fun i => outBlk m ρ c (blkOf i) (inBlk i)

/-- An index of row block `k` lies in row block `k`, -/
theorem blkOf_emb (k : Dev nD) (j : S256x128.Idx) : blkOf ((rowRect k).emb j) = k := by
  have hj : (j 0).val < 256 := (j 0).isLt
  refine Fin.ext ?_
  show (256 * k.val + 1 * (j 0).val) / 256 = k.val
  omega
/-- at its own place. -/
theorem inBlk_emb (k : Dev nD) (j : S256x128.Idx) : inBlk ((rowRect k).emb j) = j := by
  have hj : (j 0).val < 256 := (j 0).isLt
  funext a
  match a with
  | ⟨0, _⟩ => exact Fin.ext (by show (256 * k.val + 1 * (j 0).val) % 256 = (j 0).val; omega)
  | ⟨1, _⟩ => exact Fin.ext (by show 0 + 1 * (j 1).val = (j 1).val; omega)
/-- Row block `k` of the result is `outBlk c k`. -/
theorem outAt_emb (c k : Dev nD) (j : S256x128.Idx) : outAt m ρ c ((rowRect k).emb j) = outBlk m ρ c k j := by
  unfold outAt
  rw [blkOf_emb, inBlk_emb]

/-- The sixteen row blocks of the result make the result. -/
theorem out_join (c : Dev nD) :
    bigSep Finset.univ (fun k => outIs c k (outBlk m ρ c k))
      ⊢ (owns (c : Thread nD τ) (Memref.whole cc0_stg4_0) fullShare (outAt m ρ c) : sProp 𝕄) := by
  refine (bigSep_mono fun k _ => ?_).trans (owns_of_rects (c : Thread nD τ) (Memref.whole cc0_stg4_0) fullShare
    rowRect (fun _ _ => rfl) row_disjoint row_cover (outAt m ρ c))
  have e : outBlk m ρ c k = fun j => outAt m ρ c ((rowRect k).emb j) := funext fun j => (outAt_emb m ρ c k j).symm
  exact Entails.of_eq (congrArg (fun X => owns (c : Thread nD τ) (outM k) fullShare X) e)

/-! ## The semaphores -/

/-- A device's semaphores in this exchange: the handshake's, and for each number a send and a receive semaphore. -/
abbrev Slot : Type := Option (Bool × Dev nD)

/-- The scoped ones. -/
abbrev osem : Bool × Dev nD → SemLoc sig
  | (false, k) => .dma (sendS k)
  | (true, k) => .dma (recvS k)
/-- All of them. -/
abbrev csem : Slot → SemLoc sig
  | none => .reg barSem
  | some k => osem k
/-- The semaphore of a name on a device. -/
abbrev kcell (ck : Dev nD × Slot) : GSem nD τ sig := ((ck.1 : Thread nD τ), csem ck.2)

/-- The handshake semaphore of a device, -/
abbrev barCell (c : Dev nD) : GSem nD τ sig := kcell (c, none)
/-- its send semaphore `k`, -/
abbrev sendCell (c k : Dev nD) : GSem nD τ sig := kcell (c, some (false, k))
/-- and its receive semaphore `k`. -/
abbrev recvCell (c k : Dev nD) : GSem nD τ sig := kcell (c, some (true, k))

/-- Which of them a semaphore is. -/
def slotOf : SemLoc sig → Option Slot
  | .reg s => if s = barSem then some none else none
  | .dma q => if h : 21 ≤ q.val ∧ q.val < 37 then some (some (true, ⟨q.val - 21, by show _ < 16; omega⟩))
      else if h : 5 ≤ q.val ∧ q.val < 21 then some (some (false, ⟨q.val - 5, by show _ < 16; omega⟩)) else none

/-- A semaphore's name is recovered from it, -/
theorem slotOf_csem : ∀ k : Slot, slotOf (csem k) = some k := by decide +kernel

/-- so different names are different semaphores, -/
theorem csem_injective : Function.Injective csem := fun a b h => by
  have := congrArg slotOf h
  rw [slotOf_csem, slotOf_csem] at this
  exact Option.some.inj this
/-- on all devices together. -/
theorem kcell_injective : Function.Injective (kcell : Dev nD × Slot → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- The credit of the copy of one block. -/
abbrev N : ℕ := (rowM (0 : Dev nD)).view.dmaCredit
/-- A copy counts for something. -/
theorem N_pos : 0 < N := View.dmaCredit_pos _ (by decide)

/-! ## The schedule -/

/-- The device at distance `k`, going around. -/
def far (c k : Dev nD) : Dev nD := ⟨(c.val + k.val) % 16, Nat.mod_lt _ (by decide)⟩
/-- The device a send semaphore's number leads to is the one at that distance. -/
theorem far_leg : ∀ (c : Dev nD) (r : Fin 15), far c (leg r) = dst c r := by decide +kernel
/-- Different distances have different numbers, -/
theorem leg_injective : Function.Injective leg := by decide +kernel
/-- none of them zero. -/
theorem leg_ne : ∀ r : Fin 15, leg r ≠ (0 : Dev nD) := by decide +kernel

/-- Who pays a semaphore of device `c`: the handshake's all others, a receive semaphore the device of its number, a send
    semaphore device `c` itself; the receive semaphore of `c`'s own number and the send semaphore of distance zero
    nobody. -/
def dutiesOf (c : Dev nD) : Slot → Finset (Dev nD)
  | none => Finset.univ.erase c
  | some (false, k) => if k = 0 then ∅ else {c}
  | some (true, k) => if k = c then ∅ else {k}
/-- How much each pays. -/
def amountOf : Slot → ℕ
  | none => 1
  | some _ => N
/-- What comes with it. -/
def payloadOf (c : Dev nD) : Slot → Dev nD → sProp 𝕄
  | none => fun d => rowAny d c
  | some (false, k) => fun _ => colAny c (far c k)
  | some (true, k) => fun _ => rowIs c k (tile m ρ k c)

/-- What comes with a semaphore can be handed over through it. -/
instance payloadOf_storable (c : Dev nD) (k : Slot) (d : Dev nD) : BI.Storable (upEmb : UEmb _ 𝕄) (payloadOf (F := F) m ρ c k d) := by
  match k with
  | none => exact rowAny_storable d c
  | some (false, k) => exact colAny_storable c (far c k)
  | some (true, k) => exact rowIs_storable c k _

/-- Each duty counts for something. -/
theorem amountOf_pos (k : Slot) : 0 < amountOf k := by
  match k with
  | none => exact Nat.one_pos
  | some _ => exact N_pos

/-- The exchange: each semaphore has one round. -/
def rd : Rounds.Schedule (GSem nD τ sig) (Dev nD) 𝕄 where
  duties g r := if r = 0 ∧ g.1.2 = .tc then ((slotOf g.2).elim ∅ (dutiesOf g.1.1)) else ∅
  unitless _ := False
  amount g _ _ := (slotOf g.2).elim 1 amountOf
  payload g _ d := (slotOf g.2).elim iprop(emp) (fun k => payloadOf m ρ g.1.1 k d)
  amount_pos g _ _ _ := by
    cases slotOf g.2 with
    | none => exact Nat.one_pos
    | some k => exact amountOf_pos k

/-- What the schedule hands over can be handed over. -/
instance rd_payload_storable (g : GSem nD τ sig) (r : ℕ) (d : Dev nD) :
    BI.Storable (upEmb : UEmb _ 𝕄) ((rd (F := F) m ρ).payload g r d) := by
  show BI.Storable upEmb ((slotOf g.2).elim iprop(emp) (fun k => payloadOf m ρ g.1.1 k d))
  cases slotOf g.2 with
  | none => show BI.Storable upEmb iprop(emp); infer_instance
  | some k => exact payloadOf_storable m ρ g.1.1 k d

section Sched
variable (c : Dev nD) (k : Slot)

/-- The duties of a semaphore in its one round, -/
theorem duties_cell : (rd (F := F) m ρ).duties (kcell (c, k)) 0 = dutiesOf c k := by
  dsimp only [rd]; rw [if_pos ⟨rfl, rfl⟩, slotOf_csem]; rfl
/-- none in a later round, -/
theorem duties_later (g : GSem nD τ sig) : ∀ r, 1 ≤ r → (rd (F := F) m ρ).duties g r = ∅ :=
  fun r hr => by dsimp only [rd]; rw [if_neg fun h => by omega]
/-- what each counts, -/
theorem amount_cell (d : Dev nD) : (rd (F := F) m ρ).amount (kcell (c, k)) 0 d = amountOf k := by
  dsimp only [rd]; rw [slotOf_csem]; rfl
/-- what each hands over, -/
theorem payload_cell (d : Dev nD) : (rd (F := F) m ρ).payload (kcell (c, k)) 0 d = payloadOf m ρ c k d := by
  dsimp only [rd]; rw [slotOf_csem]; rfl
/-- what the round comes to, -/
theorem expect_cell : (rd (F := F) m ρ).expect (kcell (c, k)) 0 = (dutiesOf c k).card * amountOf k := by
  unfold Schedule.expect Schedule.amountOf
  rw [duties_cell, Finset.sum_congr rfl fun d _ => amount_cell m ρ c k d, Finset.sum_const, smul_eq_mul]
/-- and what is handed over in all. -/
theorem rest_cell : bigSep ((rd (F := F) m ρ).duties (kcell (c, k)) 0 \ ∅) (fun d => (rd (F := F) m ρ).payload (kcell (c, k)) 0 d)
    = bigSep (dutiesOf c k) (payloadOf m ρ c k) := by
  rw [Finset.sdiff_empty, duties_cell]
  exact bigSep_congr fun d _ => payload_cell m ρ c k d

/-- The handshake expects fifteen signals, -/
theorem expect_bar : (rd (F := F) m ρ).expect (barCell c) 0 = 15 := by
  rw [expect_cell]
  show (Finset.univ.erase c).card * 1 = 15
  rw [Finset.card_erase_of_mem (Finset.mem_univ c)]; rfl
/-- and brings each peer's row block for this device. -/
theorem rest_bar : bigSep ((rd (F := F) m ρ).duties (barCell c) 0 \ ∅) (fun d => (rd (F := F) m ρ).payload (barCell c) 0 d)
    = bigSepL hops fun r => rowAny (dst c r) c := by
  rw [rest_cell]
  exact bigSep_others c fun d => rowAny d c
/-- A send semaphore expects one copy's credit, -/
theorem expect_send (r : Fin 15) : (rd (F := F) m ρ).expect (sendCell c (leg r)) 0 = N := by
  rw [expect_cell]
  show (if leg r = 0 then (∅ : Finset (Dev nD)) else {c}).card * N = N
  rw [if_neg (leg_ne r), Finset.card_singleton, Nat.one_mul]
/-- and brings the column block back. -/
theorem rest_send (r : Fin 15) : bigSep ((rd (F := F) m ρ).duties (sendCell c (leg r)) 0 \ ∅)
      (fun d => (rd (F := F) m ρ).payload (sendCell c (leg r)) 0 d) = colAny c (dst c r) := by
  rw [rest_cell]
  show bigSep (if leg r = 0 then (∅ : Finset (Dev nD)) else {c}) (fun _ => colAny c (far c (leg r))) = _
  rw [if_neg (leg_ne r), bigSep_singleton, far_leg]
/-- A receive semaphore expects one copy's credit, -/
theorem expect_recv (r : Fin 15) : (rd (F := F) m ρ).expect (recvCell c (dst c r)) 0 = N := by
  rw [expect_cell]
  show (if dst c r = c then (∅ : Finset (Dev nD)) else {dst c r}).card * N = N
  rw [if_neg (dst_ne c r), Finset.card_singleton, Nat.one_mul]
/-- and brings the row block filled. -/
theorem rest_recv (r : Fin 15) : bigSep ((rd (F := F) m ρ).duties (recvCell c (dst c r)) 0 \ ∅)
      (fun d => (rd (F := F) m ρ).payload (recvCell c (dst c r)) 0 d) = rowIs c (dst c r) (tile m ρ (dst c r) c) := by
  rw [rest_cell]
  show bigSep (if dst c r = c then (∅ : Finset (Dev nD)) else {dst c r}) (fun _ => rowIs c (dst c r) (tile m ρ (dst c r) c)) = _
  rw [if_neg (dst_ne c r), bigSep_singleton]

/-- A device has a duty on each peer's handshake semaphore, -/
theorem mem_bar (r : Fin 15) : c ∈ (rd (F := F) m ρ).duties (barCell (dst c r)) 0 := by
  rw [duties_cell]
  exact Finset.mem_erase.mpr ⟨(dst_ne c r).symm, Finset.mem_univ _⟩
/-- on each of its own send semaphores in use, -/
theorem mem_send (r : Fin 15) : c ∈ (rd (F := F) m ρ).duties (sendCell c (leg r)) 0 := by
  rw [duties_cell]
  show c ∈ (if leg r = 0 then (∅ : Finset (Dev nD)) else {c})
  rw [if_neg (leg_ne r)]; exact Finset.mem_singleton_self _
/-- and on its receive semaphore on each peer. -/
theorem mem_recv (r : Fin 15) : c ∈ (rd (F := F) m ρ).duties (recvCell (dst c r) c) 0 := by
  rw [duties_cell]
  show c ∈ (if c = dst c r then (∅ : Finset (Dev nD)) else {c})
  rw [if_neg (dst_ne c r).symm]; exact Finset.mem_singleton_self _
/-- The two semaphores nobody pays have no duty at all. -/
theorem duties_recv_self (r : ℕ) : (rd (F := F) m ρ).duties (recvCell c c) r = ∅ := by
  rcases Nat.eq_zero_or_pos r with rfl | h
  · rw [duties_cell]; exact if_pos rfl
  · exact duties_later m ρ _ r h
/-- Send semaphore zero is never used. -/
theorem duties_send_zero (r : ℕ) : (rd (F := F) m ρ).duties (sendCell c 0) r = ∅ := by
  rcases Nat.eq_zero_or_pos r with rfl | h
  · rw [duties_cell]; rfl
  · exact duties_later m ρ _ r h

end Sched

/-! ## What a device owes, and the order of the waits -/

/-- The copies owed over the distances listed, -/
def OR (c : Dev nD) : List (Fin 15) → CellTallies nD τ sig Unit
  | [] => 0
  | r :: rs => OR c rs + tallyAt (recvCell (dst c r) c) () N
/-- and the signals owed over the distances listed with all the copies. -/
def OB (c : Dev nD) : List (Fin 15) → CellTallies nD τ sig Unit
  | [] => OR c hops
  | r :: rs => OB c rs + tallyAt (barCell (dst c r)) () 1
/-- What device `c` owes at the start. -/
def O₀ (c : Dev nD) : CellTallies nD τ sig Unit := OB c hops

/-- The tags of a semaphore: one on a core that runs the program. -/
def L (g : GSem nD τ sig) : Finset Unit := if g.1.2 = .tc then {()} else ∅
/-- The handshake's semaphores come before the receive semaphores, and all others first. -/
def rank : Option Slot → ℕ
  | some none => 1
  | some (some (true, _)) => 2
  | _ => 0
/-- The level of a semaphore: a wait is allowed below all that is owed. -/
def lv (g : GSem nD τ sig) (_ : Unit) : ℕ := rank (slotOf g.2)

/-- Other threads' semaphores have no tag, -/
theorem L_of_ne (g : GSem nD τ sig) (h : g.1.2 ≠ .tc) : L g = ∅ := if_neg h
/-- and those of the cores that run the program have one. -/
theorem L_tc (c : Dev nD) (sm : SemLoc sig) : L ((c : Thread nD τ), sm) = {()} := if_pos rfl
/-- The handshake comes first, -/
theorem lv_bar (c : Dev nD) : lv (barCell c) () = 1 := congrArg rank (slotOf_csem none)
/-- the copies after it. -/
theorem lv_recv (c k : Dev nD) : lv (recvCell c k) () = 2 := congrArg rank (slotOf_csem (some (true, k)))

/-- What is owed in copies is owed to receive semaphores of peers. -/
theorem OR_pos {c : Dev nD} {g : GSem nD τ sig} {u : Unit} : ∀ l : List (Fin 15), 0 < OR c l g u → ∃ r, g = recvCell (dst c r) c
  | [], h => absurd h (Nat.lt_irrefl 0)
  | r :: rs, h => by
    unfold OR at h
    rw [Pi.add_apply, Finsupp.add_apply, tallyAt_apply] at h
    by_cases hr : g = recvCell (dst c r) c
    · exact ⟨r, hr⟩
    · rw [if_neg (fun h' => hr h'.1)] at h
      exact OR_pos rs h
/-- What is owed at the start is owed to those or to handshake semaphores of peers. -/
theorem OB_pos {c : Dev nD} {g : GSem nD τ sig} {u : Unit} :
    ∀ l : List (Fin 15), 0 < OB c l g u → (∃ r, g = barCell (dst c r)) ∨ ∃ r, g = recvCell (dst c r) c
  | [], h => .inr (OR_pos hops h)
  | r :: rs, h => by
    unfold OB at h
    rw [Pi.add_apply, Finsupp.add_apply, tallyAt_apply] at h
    by_cases hr : g = barCell (dst c r)
    · exact .inl ⟨r, hr⟩
    · rw [if_neg (fun h' => hr h'.1)] at h
      exact OB_pos rs h

/-- At the handshake's wait a device owes copies only, whose semaphores come later. -/
theorem mayWait_bar (c : Dev nD) : (levAts L lv : sProp 𝕄) ⊢ MayWait (c : Thread nD τ) (.reg barSem) () (OR c hops) :=
  MayOwe.of_cut (L := L) (lev := lv) 1 (fun p hp => by rw [Finset.mem_singleton.mp hp, L_tc]; exact Finset.mem_singleton_self _)
    (fun g u hg => by
      obtain ⟨r, rfl⟩ := OR_pos hops hg
      exact Finset.mem_singleton_self _)
    (fun p hp => by rw [Finset.mem_singleton.mp hp]; exact le_of_eq (lv_bar c))
    (fun g u hg => by
      obtain ⟨r, rfl⟩ := OR_pos hops hg
      exact lt_of_lt_of_eq (by decide) (lv_recv (dst c r) c).symm)

/-- The pipeline's own semaphores come before everything owed. -/
theorem mayWait_stage (c : Dev nD) (q : DmaSem sig) (hq : slotOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hops hg with ⟨r, rfl⟩ | ⟨r, rfl⟩ <;> exact Finset.mem_singleton_self _)
      (fun p hp => by rw [Finset.mem_singleton.mp hp]; unfold lv; rw [hq]; exact le_refl 0)
      (fun g u hg => by
        rcases OB_pos hops hg with ⟨r, rfl⟩ | ⟨r, rfl⟩
        · exact lt_of_lt_of_eq (by decide) (lv_bar (dst c r)).symm
        · exact lt_of_lt_of_eq (by decide) (lv_recv (dst c r) c).symm)
  · rw [MayWait_zero]; iintro -; iempintro

end Cert.KernelIdeal.A2A
-- ==== Proof.KernelIdeal.Stages.lean ====
/- Each loop of the program, run on one device.

   A stage is stated as what it starts from, and that what follows the loop may run from what the loop leaves. Each is an
   induction over the list of distances, one rule for each effect of the loop's body. -/
module

public import proofs.«01_k».proof.Proof.KernelIdeal.Schedule
public import Idealize.ShloMosaic.Lib.Pipeline.BigSepL

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The program `p` runs on device `c` to the postcondition `Q`. -/
abbrev runs (c : Dev nD) (p : TcProg F) (Q : PUnit → sProp 𝕄) : sProp 𝕄 :=
  wp frame (wpE (defs₀ (F := F)) 𝒱₀ (c : Thread nD τ) none) Set.univ p Q

/-! ## What every device knows -/

/-- The invariants of all semaphores of the exchange, under the names `K`, and that each has reached its round. -/
def records (K : Dev nD × Slot → ℕ) : sProp 𝕄 :=
  iprop((bigSep Finset.univ fun ck => cellInv ER (rd m ρ) (K ck) (kcell ck)) ∗ bigSep Finset.univ fun ck => reached ER (kcell ck) 0)

/-- The records can be used any number of times. -/
instance records_persistent (K : Dev nD × Slot → ℕ) : BI.Persistent (records m ρ K) := by unfold records; infer_instance

variable (K : Dev nD × Slot → ℕ)

/-- They hold each semaphore's invariant, -/
theorem records_inv (ck : Dev nD × Slot) : records m ρ K ⊢ cellInv ER (rd m ρ) (K ck) (kcell ck) :=
  (sep_elim_left (PROP := sProp 𝕄)).trans (BI.bigSep_elim (Finset.mem_univ ck))
/-- and that each has reached its one round. -/
theorem records_reached (ck : Dev nD × Slot) : records m ρ K ⊢ reached ER (kcell ck) 0 :=
  (sep_elim_right (PROP := sProp 𝕄)).trans (BI.bigSep_elim (Finset.mem_univ ck))

/-! ## The handshake -/

/-- Each signal lends the peer its row block. -/
theorem signals_run (c : Dev nD) (W : Waits sig Unit) (k : TcProg F) (Q : PUnit → sProp 𝕄) : ∀ l : List (Fin 15),
    iprop(records m ρ K ∗ owes (c : Thread nD τ) (OB c l) W
        ∗ bigSepL l (fun r => iprop(dutyTok ER (barCell (dst c r)) 0 c ∗ rowAny c (dst c r)))
        ∗ (owes (c : Thread nD τ) (OR c hops) W -∗ runs c k Q))
      ⊢ runs c (signals c l k) Q
  | [] => by
    unfold OB signals
    iintro ⟨-, HO, -, Hk⟩
    iapply Hk; iexact HO
  | r :: rs => by
    rw [bigSepL_cons']
    unfold OB signals
    simp only [semSignalWord, Prog.lift, Prog.bind_op, Prog.bind_ret, Prog.pure_eq_ret, sigDev_eq]
    iintro ⟨#HR, HO, ⟨⟨Ht, Hrow⟩, Hl⟩, Hk⟩
    iapply (Rounds.wp_signal 𝒱₀ ER (rd m ρ) (c : Thread nD τ) none (dst := (dst c r : Thread nD τ)) (κ := K (dst c r, none))
        (d := c) (mem_bar m ρ c r) ((amount_cell m ρ (dst c r) none c).trans (by decide)) () (OB c rs) rfl)
      $$ [HO Ht Hrow]
    · isplitr; · iapply (records_inv m ρ K (dst c r, none)); iexact HR
      isplitl [HO]; · iexact HO
      isplitl [Ht]; · iexact Ht
      isplitl [Hrow]
      · iapply (show rowAny c (dst c r) ⊢ (rd m ρ).payload (barCell (dst c r)) 0 c from Entails.of_eq (payload_cell m ρ (dst c r) none c).symm)
        iexact Hrow
      iapply (records_reached m ρ K (dst c r, none)); iexact HR
    iintro HO
    iapply (signals_run c W k Q rs)
    isplitr; · iexact HR
    isplitl [HO]; · iexact HO
    isplitl [Hl]; · iexact Hl
    iexact Hk

/-- The wait for the fifteen peers: each one's row block for this device comes with it. -/
theorem meet_run (c : Dev nD) (W : Waits sig Unit) (k : TcProg F) (Q : PUnit → sProp 𝕄) :
    iprop(records m ρ K ∗ levAts L lv ∗ cred (tallyAt (barCell c) () 15) ∗ owes (c : Thread nD τ) (OR c hops) W
        ∗ atPos ER (barCell c) 0 ∅ 0
        ∗ (owes (c : Thread nD τ) (OR c hops) (insert (SemLoc.reg barSem, ()) W) -∗ atPos ER (barCell c) 1 ∅ 0
            -∗ bigSepL hops (fun r => rowAny (dst c r) c) -∗ runs c k Q))
      ⊢ runs c (do semWaitWord barSem 15#32; k) Q := by
  simp only [semWaitWord, Prog.lift, Prog.bind_op, Prog.bind_ret, Prog.pure_eq_ret]
  iintro ⟨#HR, #Hlev, Hc, HO, Hat, Hk⟩
  iapply (Rounds.wp_wait_rest_token 𝒱₀ ER (rd m ρ) (c : Thread nD τ) none (κ := K (c, none))
      (wpE_semWait_eq 𝒱₀ (c : Thread nD τ) none Set.univ) (Set.mem_univ _) () (O := OR c hops) (W := W) (R := 0) (m := 0) (T := ∅)
      (by refine Eq.trans ?_ (expect_bar m ρ c).symm; decide)) $$ [Hc HO Hat]
  · isplitr; · iapply (records_inv m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk $$ HO Hat Hp

/-! ## The scale and the rows, read once -/

/-- The corner of an array. -/
theorem zero_off : (![0, 0] : Fin 2 → Nat) = fun _ => 0 := funext fun a => by fin_cases a <;> rfl

/-- A load of the whole staged rows reads them, -/
theorem read_x (f : (cc0_stg0_0 : Ref sig .tc).ty.Contents (Elt F)) :
    (Memref.whole cc0_stg0_0).view.readAt (Elt F) xRect.toLoadRect f = f := Memref.readAt_unit_zero (Elt F) cc0_stg0_0 zero_off _ f
/-- so does one of the narrowed rows, -/
theorem read_rows (f : (cc0_scratch0 : Ref sig .tc).ty.Contents (Elt F)) :
    (Memref.whole cc0_scratch0).view.readAt (Elt F) xRect.toLoadRect f = f := Memref.readAt_unit_zero (Elt F) cc0_scratch0 zero_off _ f
/-- and a store of the whole leaves what is stored. -/
theorem write_rows (f w : (cc0_scratch0 : Ref sig .tc).ty.Contents (Elt F)) :
    ((Memref.whole cc0_scratch0).access xRect : View sig .tc _ _ _).write (Elt F) f w Finset.univ = w :=
  Memref.write_access_unit_zero_univ (Elt F) cc0_scratch0 zero_off _ f w

/-- A device's `cc0_scratch0` holds its rows at the narrower width. -/
def rowsAt (c : Dev nD) : sProp 𝕄 := iprop(((c : Thread nD τ).loc cc0_scratch0) ↦{fullShare} (narrow m ρ c))
/-- A device's staged weight. -/
def wAt (c : Dev nD) : sProp 𝕄 := iprop(((c : Thread nD τ).loc cc0_stg1_0) ↦{fullShare} (wstg m ρ c))

/-- The staged inputs stay; the rows are stored narrower; the scale is handed on. -/
theorem prepare_run (c : Dev nD) (k : F .f32 → TcProg F) (Q : PUnit → sProp 𝕄) :
    iprop((((c : Thread nD τ).loc cc0_stg0_0) ↦{fullShare} xstg m ρ c) ∗ (((c : Thread nD τ).loc cc0_stg2_0) ↦{fullShare} astg m ρ c)
        ∗ (((c : Thread nD τ).loc cc0_stg3_0) ↦{fullShare} bstg m ρ c) ∗ (∃ f, ((c : Thread nD τ).loc cc0_scratch0) ↦{fullShare} f)
        ∗ ((((c : Thread nD τ).loc cc0_stg0_0) ↦{fullShare} xstg m ρ c) -∗ (((c : Thread nD τ).loc cc0_stg2_0) ↦{fullShare} astg m ρ c)
            -∗ (((c : Thread nD τ).loc cc0_stg3_0) ↦{fullShare} bstg m ρ c) -∗ rowsAt m ρ c -∗ runs c (k (scale m ρ c)) Q))
      ⊢ runs c (prepare k) Q := by
  unfold prepare
  simp only [smemLoad, smemLoadElt, Prog.lift, Prog.bind_op, Prog.bind_ret, Prog.pure_eq_ret]
  iintro ⟨Hx, Ha, Hb, ⟨%f, Hs⟩, Hk⟩
  iapply (wp_load_rect 𝒱₀ (c : Thread nD τ) none Set.univ (m := Memref.whole cc0_stg2_0) (r := oneRect) (Finset.subset_univ _)) $$ Ha; iintro Ha
  iapply (wp_load_rect 𝒱₀ (c : Thread nD τ) none Set.univ (m := Memref.whole cc0_stg3_0) (r := oneRect) (Finset.subset_univ _)) $$ Hb; iintro Hb
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ Hs; iintro Hs
  iapply (wp_store 𝒱₀ (c : Thread nD τ) none Set.univ (m := Memref.whole cc0_scratch0) (r := xRect) (Mk := Finset.univ) (Finset.subset_univ _)) $$ Hs; iintro Hs
  rw [read_x, write_rows]
  iapply Hk $$ Hx Ha Hb [Hs]
  unfold rowsAt narrow; iexact Hs

/-- A block just written whole is held at what was written. -/
theorem owns_put {sp : Space} {sh : Shape} {e : EltTy} (c : Dev nD) (M : Memref sig .tc sp sh e) (f : M.view.ty.Contents (Elt F)) (w X : sh.Idx → Elt F e)
    (h : w = X) :
    ((M.view.loc (c : Thread nD τ)) ↦[M.view.set]{fullShare} (M.view.write (Elt F) f w Finset.univ) : sProp 𝕄) ⊢ owns (c : Thread nD τ) M fullShare X := by
  unfold owns
  iintro H; iexists (M.view.write (Elt F) f w Finset.univ); isplitr; · (ipureintro; exact (View.read_write_univ _ _).trans h)
  iexact H

/-! ## The products sent -/

/-- A column block's elements are those of its view; -/
theorem col_setOn (j : Dev nD) : (Memref.whole cc0_scratch1).view.setOn (colRect j).set ⊆ (colM j).view.set := by
  rw [View.set_slice]; exact Finset.Subset.refl _
/-- so are a row block's of the receive buffer, -/
theorem row_setOn (k : Dev nD) : (Memref.whole cc0_scratch2).view.setOn (rowRect k).set ⊆ (rowM k).view.set := by
  rw [View.set_slice]; exact Finset.Subset.refl _
/-- and of the result. -/
theorem out_setOn (k : Dev nD) : (Memref.whole cc0_stg4_0).view.setOn (rowRect k).set ⊆ (outM k).view.set := by
  rw [View.set_slice]; exact Finset.Subset.refl _

/-- A finished send brings back the column block, -/
theorem pay_send (c : Dev nD) (r : Fin 15) : (rd (F := F) m ρ).payload ((c : Thread nD τ), .dma (sendS (leg r))) 0 c = colAny c (dst c r) :=
  (payload_cell m ρ c (some (false, leg r)) c).trans (congrArg (colAny c) (far_leg c r))
/-- and delivers the row block filled. -/
theorem pay_recv (c : Dev nD) (r : Fin 15) : (rd (F := F) m ρ).payload ((dst c r : Thread nD τ), .dma (recvS c)) 0 c
    = rowIs (dst c r) c (tile m ρ c (dst c r)) := payload_cell m ρ (dst c r) (some (true, c)) c

/-- One copy: from the column block to the row block lent by the peer. -/
theorem copy_run (c : Dev nD) (W : Waits sig Unit) (r : Fin 15) (rs : List (Fin 15))
    {hsc : (rowM c : Memref sig (Dev.tc (dst c r) : Thread nD τ).2.kind .vmem S256x128 .bf16).view.ref.isScScratch = false}
    {hsrc : (colM (dst c r)).view.WordExact} {hdst : (rowM c).view.WordExact}
    {hsem : DmaTarget.Typed .vmem (.dma (recvS c)) (.remote (Dev.tc (dst c r) : Thread nD τ) (rowM c) (.dma (sendS (leg r))) hsc)}
    (k : PUnit → TcProg F) (Q : PUnit → sProp 𝕄) :
    iprop(records m ρ K ∗ owns (c : Thread nD τ) (colM (dst c r)) fullShare (tile m ρ c (dst c r)) ∗ rowAny (dst c r) c
        ∗ owes (c : Thread nD τ) (OR c (r :: rs)) W
        ∗ dutyTok ER (sendCell c (leg r)) 0 c ∗ dutyTok ER (recvCell (dst c r) c) 0 c)
      ⊢ iprop(((cred (tallyAt (sendCell c (leg r)) () N) ∗ owes (c : Thread nD τ) (OR c rs) W) -∗ runs c (k ⟨⟩) Q)
          -∗ runs c (.op (.enqueueDma (colM (dst c r)) (.remote (Dev.tc (dst c r) : Thread nD τ) (rowM c) (.dma (sendS (leg r))) hsc)
              (.dma (recvS c)) hsrc hdst hsem) k) Q) := by
  unfold rowAny owns
  iintro ⟨#HR, ⟨%f, %hf, Hc⟩, ⟨%Y, %g, -, Hr⟩, HO, HtS, HtR⟩ Hk
  iapply (Rounds.wp_send_pointsTo 𝒱₀ ER (rd m ρ) (c : Thread nD τ) none (c' := (dst c r : Thread nD τ)) (src := colM (dst c r)) (dst := rowM c)
    (κ₁ := K (c, some (false, leg r))) (κ₂ := K (dst c r, some (true, c)))
    (r₁ := 0) (r₂ := 0) (d₁ := c) (d₂ := c) (fs := f) (fd := g)
    (mem_send m ρ c r) (mem_recv m ρ c r) () () N rfl (amount_cell m ρ c (some (false, leg r)) c) (amount_cell m ρ (dst c r) (some (true, c)) c)
    (OR c rs) rfl (W := W)
    (by
      rw [pay_send]
      unfold colAny owns
      iintro H; iexists ((colM (dst c r)).view.read (Elt F) f); iexists f; isplitr; · (ipureintro; rfl)
      iexact H)
    (by
      rw [pay_recv]
      unfold rowIs owns
      iintro H; iexists ((rowM c).view.write (Elt F) g ((colM (dst c r)).view.read (Elt F) f) Finset.univ)
      isplitr; · (ipureintro; exact (View.read_write_univ _ _).trans hf)
      iexact H))
    $$ [Hc Hr HO HtS HtR]
  · isplitr; · iapply (records_inv m ρ K (c, some (false, leg r))); iexact HR
    isplitr; · iapply (records_inv m ρ K (dst c r, some (true, c))); iexact HR
    isplitl [Hc]; · iexact Hc
    isplitl [Hr]; · iexact Hr
    isplitl [HO]; · iexact HO
    isplitl [HtS]; · iexact HtS
    isplitr; · iapply (records_reached m ρ K (c, some (false, leg r))); iexact HR
    isplitl [HtR]; · iexact HtR
    iapply (records_reached m ρ K (dst c r, some (true, c))); iexact HR
  iexact Hk

/-- One product: computed into its column block and sent off with it. -/
theorem send_run (c : Dev nD) (W : Waits sig Unit) (r : Fin 15) (rs : List (Fin 15)) (k : TcProg F) (Q : PUnit → sProp 𝕄) :
    iprop(records m ρ K ∗ wAt m ρ c ∗ rowsAt m ρ c ∗ owes (c : Thread nD τ) (OR c (r :: rs)) W
        ∗ (dutyTok ER (sendCell c (leg r)) 0 c ∗ dutyTok ER (recvCell (dst c r) c) 0 c ∗ colAny c (dst c r) ∗ rowAny (dst c r) c)
        ∗ (wAt m ρ c -∗ rowsAt m ρ c -∗ owes (c : Thread nD τ) (OR c rs) W -∗ cred (tallyAt (sendCell c (leg r)) () N) -∗ runs c k Q))
      ⊢ runs c (sendOne c (scale m ρ c) r k) Q := by
  rw [sendOne_eq]
  unfold sendAt wAt rowsAt colAny
  simp only [Prog.lift, Prog.bind_op, Prog.bind_ret, Prog.pure_eq_ret]
  iintro ⟨#HR, Hw, Hx, HO, ⟨HtS, HtR, ⟨%X, Hc⟩, Hr⟩, Hk⟩
  ihave Hc := (owns_pts c (colM (dst c r)) X) $$ Hc
  icases Hc with ⟨%f, Hc⟩
  iapply (wp_load 𝒱₀ (c : Thread nD τ) none Set.univ (m := Memref.whole cc0_stg1_0) (Finset.subset_univ _)) $$ Hw; iintro Hw
  iapply (wp_load 𝒱₀ (c : Thread nD τ) none Set.univ (m := Memref.whole cc0_scratch0) (Finset.subset_univ _)) $$ Hx; iintro Hx
  iapply (wp_load 𝒱₀ (c : Thread nD τ) none Set.univ (m := Memref.whole cc0_scratch1) (col_setOn (dst c r))) $$ Hc; iintro Hc
  iapply (wp_store 𝒱₀ (c : Thread nD τ) none Set.univ (m := Memref.whole cc0_scratch1) (r := colRect (dst c r)) (Mk := Finset.univ)
    (S := (colM (dst c r)).view.set) (Finset.Subset.refl _)) $$ Hc; iintro Hc
  rw [read_rows]
  iapply (copy_run m ρ K c W r rs) $$ [Hc Hr HO HtS HtR]
  · isplitr; · iexact HR
    isplitl [Hc]
    · iapply (owns_put c (colM (dst c r)) f (sent (scale m ρ c) (wcol m ρ c (dst c r)) (narrow m ρ c)) (tile m ρ c (dst c r)) rfl)
      iexact Hc
    isplitl [Hr]; · iexact Hr
    isplitl [HO]; · iexact HO
    isplitl [HtS] <;> iassumption
  iintro ⟨Hcr, HO⟩
  iapply Hk $$ Hw Hx HO Hcr

/-- All the products. -/
theorem sends_run (c : Dev nD) (W : Waits sig Unit) (k : TcProg F) (Q : PUnit → sProp 𝕄) : ∀ l : List (Fin 15),
    iprop(records m ρ K ∗ wAt m ρ c ∗ rowsAt m ρ c ∗ owes (c : Thread nD τ) (OR c l) W
        ∗ bigSepL l (fun r => iprop(dutyTok ER (sendCell c (leg r)) 0 c ∗ dutyTok ER (recvCell (dst c r) c) 0 c ∗ colAny c (dst c r) ∗ rowAny (dst c r) c))
        ∗ (wAt m ρ c -∗ rowsAt m ρ c -∗ owes (c : Thread nD τ) 0 W
            -∗ bigSepL l (fun r => cred (tallyAt (sendCell c (leg r)) () N)) -∗ runs c k Q))
      ⊢ runs c (sends c (scale m ρ c) l k) Q
  | [] => by
    rw [bigSepL_nil, bigSepL_nil]
    unfold OR sends
    iintro ⟨-, Hw, Hx, HO, He, Hk⟩
    iapply Hk $$ Hw Hx HO He
  | r :: rs => by
    rw [bigSepL_cons', bigSepL_cons']
    unfold sends
    iintro ⟨#HR, Hw, Hx, HO, ⟨H1, Hl⟩, Hk⟩
    iapply (send_run m ρ K c W r rs)
    isplitr; · iexact HR
    isplitl [Hw]; · iexact Hw
    isplitl [Hx]; · iexact Hx
    isplitl [HO]; · iexact HO
    isplitl [H1]; · iexact H1
    iintro Hw Hx HO Hcr
    iapply (sends_run c W k Q rs)
    isplitr; · iexact HR
    isplitl [Hw]; · iexact Hw
    isplitl [Hx]; · iexact Hx
    isplitl [HO]; · iexact HO
    isplitl [Hl]; · iexact Hl
    iintro Hw Hx HO Hcs
    iapply Hk $$ Hw Hx HO
    isplitl [Hcr]; · iexact Hcr
    iexact Hcs

/-! ## The rows kept -/

/-- A device's own rows go into its own row block of the result. -/
theorem keep_run (c : Dev nD) (k : TcProg F) (Q : PUnit → sProp 𝕄) :
    iprop(wAt m ρ c ∗ rowsAt m ρ c ∗ outAny c c
        ∗ (wAt m ρ c -∗ rowsAt m ρ c -∗ outIs c c (outBlk m ρ c c) -∗ runs c k Q))
      ⊢ runs c (keepOne c (scale m ρ c) k) Q := by
  rw [keepOne_eq]
  unfold keepAt wAt rowsAt outAny outIs
  simp only [Prog.lift, Prog.bind_op, Prog.bind_ret, Prog.pure_eq_ret]
  iintro ⟨Hw, Hx, ⟨%X, Ho⟩, Hk⟩
  ihave Ho := (owns_pts c (outM c) X) $$ Ho
  icases Ho with ⟨%f, Ho⟩
  iapply (wp_load 𝒱₀ (c : Thread nD τ) none Set.univ (m := Memref.whole cc0_stg1_0) (Finset.subset_univ _)) $$ Hw; iintro Hw
  iapply (wp_load 𝒱₀ (c : Thread nD τ) none Set.univ (m := Memref.whole cc0_scratch0) (Finset.subset_univ _)) $$ Hx; iintro Hx
  iapply (wp_load 𝒱₀ (c : Thread nD τ) none Set.univ (m := Memref.whole cc0_stg4_0) (out_setOn c)) $$ Ho; iintro Ho
  iapply (wp_store 𝒱₀ (c : Thread nD τ) none Set.univ (m := Memref.whole cc0_stg4_0) (r := rowRect c) (Mk := Finset.univ)
    (S := (outM c).view.set) (Finset.Subset.refl _)) $$ Ho; iintro Ho
  rw [read_rows]
  iapply Hk $$ Hw Hx
  iapply (owns_put c (outM c) f (kept (scale m ρ c) (wcol m ρ c c) (narrow m ρ c)) (outBlk m ρ c c) (by unfold outBlk; rw [if_pos rfl]; rfl))
  iexact Ho

/-! ## The blocks received -/

/-- One block: waited for and put into its rows of the result. -/
theorem recv_run (c : Dev nD) (W : Waits sig Unit) (r : Fin 15) (k : TcProg F) (Q : PUnit → sProp 𝕄) :
    iprop(records m ρ K ∗ owes (c : Thread nD τ) 0 W
        ∗ (cred (tallyAt (recvCell c (dst c r)) () N) ∗ atPos ER (recvCell c (dst c r)) 0 ∅ 0 ∗ outAny c (dst c r))
        ∗ (owes (c : Thread nD τ) 0 (insert (SemLoc.dma (recvS (dst c r)), ()) W) -∗ atPos ER (recvCell c (dst c r)) 1 ∅ 0
            -∗ rowAny c (dst c r) -∗ outIs c (dst c r) (outBlk m ρ c (dst c r)) -∗ runs c k Q))
      ⊢ runs c (recvOne c r k) Q := by
  rw [recvOne_eq]
  unfold recvAt outAny outIs
  simp only [Prog.lift, Prog.bind_op, Prog.bind_ret, Prog.pure_eq_ret]
  iintro ⟨#HR, HO, ⟨Hc, Hat, ⟨%X, Ho⟩⟩, Hk⟩
  iapply (Rounds.wp_wait_rest_token 𝒱₀ ER (rd m ρ) (c : Thread nD τ) none (κ := K (c, some (true, dst c r)))
      (wpE_waitDma2_eq 𝒱₀ (c : Thread nD τ) none Set.univ) (Set.mem_univ _) () (O := 0) (W := W) (R := 0) (m := 0) (T := ∅)
      (by refine Eq.trans ?_ (expect_recv m ρ c r).symm; exact Nat.zero_add _)) $$ [Hc HO Hat]
  · isplitr; · iapply (records_inv m ρ K (c, some (true, dst c r))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c r)) $$ Hpay
  ihave Hp := (show rowIs c (dst c r) (tile m ρ (dst c r) c) ⊢ iprop(∃ g, ⌜(rowM (dst c r)).view.read (Elt F) g = tile m ρ (dst c r) c⌝
    ∗ ((rowM (dst c r)).view.loc (c : Thread nD τ)) ↦[(rowM (dst c r)).view.set]{fullShare} g) from Entails.of_eq rfl) $$ Hp
  icases Hp with ⟨%g, %hg, Hr⟩
  ihave Ho := (owns_pts c (outM (dst c r)) X) $$ Ho
  icases Ho with ⟨%f, Ho⟩
  iapply (wp_load 𝒱₀ (c : Thread nD τ) none Set.univ (m := Memref.whole cc0_scratch2) (row_setOn (dst c r))) $$ Hr; iintro Hr
  iapply (wp_load 𝒱₀ (c : Thread nD τ) none Set.univ (m := Memref.whole cc0_stg4_0) (out_setOn (dst c r))) $$ Ho; iintro Ho
  iapply (wp_store 𝒱₀ (c : Thread nD τ) none Set.univ (m := Memref.whole cc0_stg4_0) (r := rowRect (dst c r)) (Mk := Finset.univ)
    (S := (outM (dst c r)).view.set) (Finset.Subset.refl _)) $$ Ho; iintro Ho
  iapply Hk $$ HO Hat [Hr]
  · iapply (row_of c (dst c r) _)
    unfold owns
    iexists g; isplitr; · (ipureintro; rfl)
    iexact Hr
  iapply (owns_put c (outM (dst c r)) f (widened ((rowM (dst c r)).view.read (Elt F) g)) (outBlk m ρ c (dst c r))
    (by unfold outBlk; rw [if_neg (dst_ne c r), hg]))
  iexact Ho

/-- All the blocks. -/
theorem recvs_run (c : Dev nD) (k : TcProg F) (Q : PUnit → sProp 𝕄) : ∀ (l : List (Fin 15)) (W : Waits sig Unit),
    iprop(records m ρ K ∗ owes (c : Thread nD τ) 0 W
        ∗ bigSepL l (fun r => iprop(cred (tallyAt (recvCell c (dst c r)) () N) ∗ atPos ER (recvCell c (dst c r)) 0 ∅ 0 ∗ outAny c (dst c r)))
        ∗ ((∃ W', owes (c : Thread nD τ) 0 W')
            -∗ bigSepL l (fun r => iprop(atPos ER (recvCell c (dst c r)) 1 ∅ 0 ∗ rowAny c (dst c r) ∗ outIs c (dst c r) (outBlk m ρ c (dst c r))))
            -∗ runs c k Q))
      ⊢ runs c (recvs c l k) Q
  | [], W => by
    rw [bigSepL_nil, bigSepL_nil]
    unfold recvs
    iintro ⟨-, HO, He, Hk⟩
    iapply Hk $$ [HO] He
    iexists W; iexact HO
  | r :: rs, W => by
    rw [bigSepL_cons', bigSepL_cons']
    unfold recvs
    iintro ⟨#HR, HO, ⟨H1, Hl⟩, Hk⟩
    iapply (recv_run m ρ K c W r)
    isplitr; · iexact HR
    isplitl [HO]; · iexact HO
    isplitl [H1]; · iexact H1
    iintro HO Hat Hr Ho
    iapply (recvs_run c k Q rs)
    isplitr; · iexact HR
    isplitl [HO]; · iexact HO
    isplitl [Hl]; · iexact Hl
    iintro HO Hls
    iapply Hk $$ HO
    isplitl [Hat Hr Ho]
    · isplitl [Hat]; · iexact Hat
      isplitl [Hr] <;> iassumption
    iexact Hls

/-! ## The waits for the sends -/

/-- One wait: the column block comes back. -/
theorem drain_run (c : Dev nD) (W : Waits sig Unit) (r : Fin 15) (k : TcProg F) (Q : PUnit → sProp 𝕄) :
    iprop(records m ρ K ∗ owes (c : Thread nD τ) 0 W
        ∗ (cred (tallyAt (sendCell c (leg r)) () N) ∗ atPos ER (sendCell c (leg r)) 0 ∅ 0)
        ∗ (owes (c : Thread nD τ) 0 (insert (SemLoc.dma (sendS (leg r)), ()) W) -∗ atPos ER (sendCell c (leg r)) 1 ∅ 0
            -∗ colAny c (dst c r) -∗ runs c k Q))
      ⊢ runs c (drainOne c r k) Q := by
  rw [drainOne_eq]
  unfold drainAt
  simp only [Prog.lift, Prog.bind_op, Prog.bind_ret, Prog.pure_eq_ret]
  iintro ⟨#HR, HO, ⟨Hc, Hat⟩, Hk⟩
  iapply (Rounds.wp_wait_rest_token 𝒱₀ ER (rd m ρ) (c : Thread nD τ) none (κ := K (c, some (false, leg r)))
      (wpE_waitDma2_eq 𝒱₀ (c : Thread nD τ) none Set.univ) (Set.mem_univ _) () (O := 0) (W := W) (R := 0) (m := 0) (T := ∅)
      (by refine Eq.trans ?_ (expect_send m ρ c r).symm; exact Nat.zero_add _)) $$ [Hc HO Hat]
  · isplitr; · iapply (records_inv m ρ K (c, some (false, leg r))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c r)) $$ Hpay
  iapply Hk $$ HO Hat Hp

/-- All the waits. -/
theorem drains_run (c : Dev nD) (k : TcProg F) (Q : PUnit → sProp 𝕄) : ∀ (l : List (Fin 15)) (W : Waits sig Unit),
    iprop(records m ρ K ∗ owes (c : Thread nD τ) 0 W
        ∗ bigSepL l (fun r => iprop(cred (tallyAt (sendCell c (leg r)) () N) ∗ atPos ER (sendCell c (leg r)) 0 ∅ 0))
        ∗ ((∃ W', owes (c : Thread nD τ) 0 W')
            -∗ bigSepL l (fun r => iprop(atPos ER (sendCell c (leg r)) 1 ∅ 0 ∗ colAny c (dst c r)))
            -∗ runs c k Q))
      ⊢ runs c (drains c l k) Q
  | [], W => by
    rw [bigSepL_nil, bigSepL_nil]
    unfold drains
    iintro ⟨-, HO, He, Hk⟩
    iapply Hk $$ [HO] He
    iexists W; iexact HO
  | r :: rs, W => by
    rw [bigSepL_cons', bigSepL_cons']
    unfold drains
    iintro ⟨#HR, HO, ⟨H1, Hl⟩, Hk⟩
    iapply (drain_run m ρ K c W r)
    isplitr; · iexact HR
    isplitl [HO]; · iexact HO
    isplitl [H1]; · iexact H1
    iintro HO Hat Hc
    iapply (drains_run c k Q rs)
    isplitr; · iexact HR
    isplitl [HO]; · iexact HO
    isplitl [Hl]; · iexact Hl
    iintro HO Hls
    iapply Hk $$ HO
    isplitl [Hat Hc]
    · isplitl [Hat] <;> iassumption
    iexact Hls

end Cert.KernelIdeal.A2A
-- ==== Proof.KernelIdeal.Device.lean ====
/- The whole program, run on one device.

   A device starts with its three scratch buffers and its result at any contents, its inputs staged, its place at each of
   its semaphores and its right to pay each semaphore it pays. It ends with its result holding the sixteen row blocks, the
   scratch buffers whole again, nothing owed, and every semaphore of the exchange at zero. -/
module

public import proofs.«01_k».proof.Proof.KernelIdeal.Stages

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists and families of resources -/

/-- A list of pairs of resources is the pair of the lists. -/
theorem list_sep {I : Type} (Φ Ψ : I → sProp 𝕄) : ∀ l : List I,
    bigSepL l (fun i => iprop(Φ i ∗ Ψ i)) = iprop(bigSepL l Φ ∗ bigSepL l Ψ)
  | [] => by rw [bigSepL_nil, bigSepL_nil, bigSepL_nil]; exact (equiv_iff.mp emp_sep).symm
  | i :: l => by
    rw [bigSepL_cons', bigSepL_cons', bigSepL_cons', list_sep Φ Ψ l]
    refine equiv_iff.mp ⟨?_, ?_⟩
    · show iprop((Φ i ∗ Ψ i) ∗ bigSepL l Φ ∗ bigSepL l Ψ) ⊢ (iprop((Φ i ∗ bigSepL l Φ) ∗ Ψ i ∗ bigSepL l Ψ) : sProp 𝕄)
      iintro ⟨⟨H1, H2⟩, H3, H4⟩
      isplitl [H1 H3]
      · isplitl [H1] <;> iassumption
      isplitl [H2] <;> iassumption
    · show iprop((Φ i ∗ bigSepL l Φ) ∗ Ψ i ∗ bigSepL l Ψ) ⊢ (iprop((Φ i ∗ Ψ i) ∗ bigSepL l Φ ∗ bigSepL l Ψ) : sProp 𝕄)
      iintro ⟨⟨H1, H3⟩, H2, H4⟩
      isplitl [H1 H2]
      · isplitl [H1] <;> iassumption
      isplitl [H3] <;> iassumption

/-- One resource for each semaphore of a device: the handshake's and the scoped ones'. -/
theorem slots_scoped (Φ : Slot → sProp 𝕄) :
    bigSep Finset.univ Φ = iprop(Φ none ∗ bigSep Finset.univ fun k : Bool × Dev nD => Φ (some k)) := by
  rw [bigSep_erase (Finset.mem_univ (none : Slot)),
    show (Finset.univ : Finset Slot).erase none = Finset.univ.map ⟨some, Option.some_injective _⟩ from by decide +kernel, bigSep_map]
  rfl

/-- The same, the scoped ones parted into send and receive semaphores. -/
theorem slots_split (Φ : Slot → sProp 𝕄) :
    bigSep Finset.univ Φ = iprop(Φ none ∗ (bigSep Finset.univ fun k : Dev nD => Φ (some (false, k)))
      ∗ bigSep Finset.univ fun k : Dev nD => Φ (some (true, k))) := by
  rw [slots_scoped, bigSep_univ_prod, bigSep_univ_eq_bigSepL [false, true] (by decide) (by decide), bigSepL_cons', bigSepL_cons', bigSepL_nil]
  exact congrArg (fun X => iprop(Φ none ∗ (bigSep Finset.univ fun k : Dev nD => Φ (some (false, k))) ∗ X)) (equiv_iff.mp BI.sep_emp)

/-- The same, the send semaphores taken by distance and the receive semaphores by peer. -/
theorem slots_around (c : Dev nD) (Φ : Slot → sProp 𝕄) :
    bigSep Finset.univ Φ = iprop(Φ none ∗ (Φ (some (false, 0)) ∗ bigSepL hops fun r => Φ (some (false, leg r)))
      ∗ (Φ (some (true, c)) ∗ bigSepL hops fun r => Φ (some (true, dst c r)))) := by
  have e : ∀ r : Fin 15, dst 0 r = leg r := by decide
  rw [slots_split, bigSep_around (0 : Dev nD) (fun k => Φ (some (false, k))), bigSep_around c (fun k => Φ (some (true, k)))]
  simp only [e]

/-! ## Closing the semaphores -/

variable (K : Dev nD × Slot → ℕ)

/-- A semaphore whose rounds are over is at zero. -/
theorem close_one (ck : Dev nD × Slot) (R : ℕ) (h : ∀ r, R ≤ r → (rd (F := F) m ρ).duties (kcell ck) r = ∅) :
    iprop(records m ρ K ∗ atPos ER (kcell ck) R ∅ 0) ⊢ (iprop(|={Set.univ}=> semVal (kcell ck) 0) : sProp 𝕄) := by
  iintro ⟨#HR, Hat⟩
  imod (Rounds.cell_close ER (rd m ρ) (Set.mem_univ (K ck)) (fun h => h) (R := R) h) $$ [Hat] with Hz
  · isplitr; · iapply (records_inv m ρ K ck); iexact HR
    iexact Hat
  imodintro; iexact Hz

/-- A list of such semaphores. -/
theorem close_list (g : Fin 15 → Dev nD × Slot) : ∀ l : List (Fin 15),
    iprop(records m ρ K ∗ bigSepL l fun r => atPos ER (kcell (g r)) 1 ∅ 0)
      ⊢ (iprop(|={Set.univ}=> bigSepL l fun r => semVal (kcell (g r)) 0) : sProp 𝕄)
  | [] => by
    rw [bigSepL_nil, bigSepL_nil]
    iintro ⟨-, H⟩
    imodintro; iexact H
  | r :: rs => by
    rw [bigSepL_cons', bigSepL_cons']
    iintro ⟨#HR, Hat, Hl⟩
    imod (close_one m ρ K (g r) 1 (duties_later m ρ _)) $$ [Hat] with Hz
    · isplitr; · iexact HR
      iexact Hat
    imod (close_list g rs) $$ [Hl] with Hzs
    · isplitr; · iexact HR
      iexact Hl
    imodintro
    isplitl [Hz] <;> iassumption

/-- All semaphores of a device. -/
theorem close_all (c : Dev nD) :
    iprop(records m ρ K ∗ atPos ER (barCell c) 1 ∅ 0 ∗ atPos ER (sendCell c 0) 0 ∅ 0 ∗ atPos ER (recvCell c c) 0 ∅ 0
        ∗ (bigSepL hops fun r => atPos ER (sendCell c (leg r)) 1 ∅ 0) ∗ (bigSepL hops fun r => atPos ER (recvCell c (dst c r)) 1 ∅ 0))
      ⊢ (iprop(|={Set.univ}=> bigSep Finset.univ fun k : Slot => semVal (kcell (c, k)) 0) : sProp 𝕄) := by
  rw [slots_around c fun k => semVal (kcell (c, k)) 0]
  iintro ⟨#HR, Hb, Hs, Hv, Hsl, Hvl⟩
  imod (close_one m ρ K (c, none) 1 (duties_later m ρ _)) $$ [Hb] with Hb
  · isplitr; · iexact HR
    iexact Hb
  imod (close_one m ρ K (c, some (false, 0)) 0 (fun r _ => duties_send_zero m ρ c r)) $$ [Hs] with Hs
  · isplitr; · iexact HR
    iexact Hs
  imod (close_one m ρ K (c, some (true, c)) 0 (fun r _ => duties_recv_self m ρ c r)) $$ [Hv] with Hv
  · isplitr; · iexact HR
    iexact Hv
  imod (close_list m ρ K (fun r => (c, some (false, leg r))) hops) $$ [Hsl] with Hsl
  · isplitr; · iexact HR
    iexact Hsl
  imod (close_list m ρ K (fun r => (c, some (true, dst c r))) hops) $$ [Hvl] with Hvl
  · isplitr; · iexact HR
    iexact Hvl
  imodintro
  isplitl [Hb]; · iexact Hb
  isplitl [Hs Hsl]
  · isplitl [Hs] <;> iassumption
  isplitl [Hv] <;> iassumption

/-! ## What a device starts with -/

/-- A device's place at each of its semaphores. -/
def places (c : Dev nD) : sProp 𝕄 := bigSep Finset.univ fun k : Slot => atPos ER (kcell (c, k)) 0 ∅ 0
/-- A device's right to pay: each peer's handshake and receive semaphore, its own send semaphores. -/
def rights (c : Dev nD) : sProp 𝕄 :=
  iprop((bigSepL hops fun r => dutyTok ER (barCell (dst c r)) 0 c) ∗ (bigSepL hops fun r => dutyTok ER (recvCell (dst c r) c) 0 c)
    ∗ (bigSepL hops fun r => dutyTok ER (sendCell c (leg r)) 0 c))
/-- What is owed to a device: fifteen signals and fifteen copies. -/
def credits (c : Dev nD) : sProp 𝕄 :=
  iprop(cred (tallyAt (barCell c) () 15) ∗ bigSepL hops fun r => cred (tallyAt (recvCell c (dst c r)) () N))
/-- A device's scratch buffers, at any contents. -/
def scratches (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- A device's staged inputs. -/
def inputs (c : Dev nD) : sProp 𝕄 :=
  iprop((((c : Thread nD τ).loc cc0_stg0_0) ↦{fullShare} xstg m ρ c) ∗ wAt m ρ c ∗ (((c : Thread nD τ).loc cc0_stg2_0) ↦{fullShare} astg m ρ c)
    ∗ (((c : Thread nD τ).loc cc0_stg3_0) ↦{fullShare} bstg m ρ c))

/-- What a device ends with. -/
def ended (c : Dev nD) : sProp 𝕄 :=
  iprop(inputs m ρ c ∗ owns (c : Thread nD τ) (Memref.whole cc0_stg4_0) fullShare (outAt m ρ c) ∗ scratches c
    ∗ (bigSep Finset.univ fun k : Slot => semVal (kcell (c, k)) 0) ∗ ∃ W, owes (c : Thread nD τ) 0 W)

/-! ## The run -/

set_option maxHeartbeats 1600000 in
/-- The program, from what a device starts with to what it ends with. -/
theorem program_run (c : Dev nD) (W : Waits sig Unit) (Q : PUnit → sProp 𝕄) :
    iprop(records m ρ K ∗ places c ∗ rights c ∗ credits c ∗ levAts L lv ∗ scratches c ∗ inputs m ρ c
        ∗ (∃ f, ((c : Thread nD τ).loc cc0_stg4_0) ↦{fullShare} f) ∗ owes (c : Thread nD τ) (O₀ c) W
        ∗ (ended m ρ c -∗ Q ⟨⟩))
      ⊢ runs c (program c) Q := by
  unfold places rights credits scratches inputs O₀ program
  rw [slots_around c fun k => atPos ER (kcell (c, k)) 0 ∅ 0]
  iintro ⟨#HR, ⟨HaB, ⟨HaS0, HaS⟩, HaV0, HaV⟩, ⟨HtB, HtV, HtS⟩, ⟨HcB, HcV⟩, #Hlev, ⟨Hs0, ⟨%f1, Hs1⟩, ⟨%f2, Hs2⟩⟩, ⟨Hx, Hw, Ha, Hb⟩, ⟨%f4, Ho⟩, HO, Hk⟩
  ihave Hs1 := (col_split c f1) $$ Hs1
  ihave Hs2 := (row_split c f2) $$ Hs2
  ihave Ho := (out_split c f4) $$ Ho
  ihave Hs1 := (Entails.of_eq (bigSep_around c (colAny c))) $$ Hs1
  ihave Hs2 := (Entails.of_eq (bigSep_around c (rowAny c))) $$ Hs2
  ihave Ho := (Entails.of_eq (bigSep_around c (outAny c))) $$ Ho
  icases Hs1 with ⟨Hcol0, Hcol⟩
  icases Hs2 with ⟨Hrow0, Hrow⟩
  icases Ho with ⟨Hout0, Hout⟩
  -- the handshake
  iapply (signals_run m ρ K c W _ _ hops)
  isplitr; · iexact HR
  isplitl [HO]; · iexact HO
  isplitl [HtB Hrow]
  · iapply (Entails.of_eq (list_sep (fun r => dutyTok ER (barCell (dst c r)) 0 c) (fun r => rowAny c (dst c r)) hops).symm)
    isplitl [HtB] <;> iassumption
  iintro HO
  iapply (meet_run m ρ K c W)
  isplitr; · iexact HR
  isplitr; · iexact Hlev
  isplitl [HcB]; · iexact HcB
  isplitl [HO]; · iexact HO
  isplitl [HaB]; · iexact HaB
  iintro HO HaB Hlent
  -- the scale and the rows
  iapply (prepare_run m ρ c)
  isplitl [Hx]; · iexact Hx
  isplitl [Ha]; · iexact Ha
  isplitl [Hb]; · iexact Hb
  isplitl [Hs0]; · iexact Hs0
  iintro Hx Ha Hb Hs0
  -- the products sent
  iapply (sends_run m ρ K c (insert (SemLoc.reg barSem, ()) W) _ _ hops)
  isplitr; · iexact HR
  isplitl [Hw]; · iexact Hw
  isplitl [Hs0]; · iexact Hs0
  isplitl [HO]; · iexact HO
  isplitl [HtS HtV Hcol Hlent]
  · iapply (Entails.of_eq (list_sep (fun r => dutyTok ER (sendCell c (leg r)) 0 c)
      (fun r => iprop(dutyTok ER (recvCell (dst c r) c) 0 c ∗ colAny c (dst c r) ∗ rowAny (dst c r) c)) hops).symm)
    isplitl [HtS]; · iexact HtS
    iapply (Entails.of_eq (list_sep (fun r => dutyTok ER (recvCell (dst c r) c) 0 c)
      (fun r => iprop(colAny c (dst c r) ∗ rowAny (dst c r) c)) hops).symm)
    isplitl [HtV]; · iexact HtV
    iapply (Entails.of_eq (list_sep (fun r => colAny c (dst c r)) (fun r => rowAny (dst c r) c) hops).symm)
    isplitl [Hcol] <;> iassumption
  iintro Hw Hs0 HO HcS
  -- the rows kept
  iapply (keep_run m ρ c)
  isplitl [Hw]; · iexact Hw
  isplitl [Hs0]; · iexact Hs0
  isplitl [Hout0]; · iexact Hout0
  iintro Hw Hs0 Hout0
  -- the blocks received
  iapply (recvs_run m ρ K c _ _ hops (insert (SemLoc.reg barSem, ()) W))
  isplitr; · iexact HR
  isplitl [HO]; · iexact HO
  isplitl [HcV HaV Hout]
  · iapply (Entails.of_eq (list_sep (fun r => cred (tallyAt (recvCell c (dst c r)) () N))
      (fun r => iprop(atPos ER (recvCell c (dst c r)) 0 ∅ 0 ∗ outAny c (dst c r))) hops).symm)
    isplitl [HcV]; · iexact HcV
    iapply (Entails.of_eq (list_sep (fun r => atPos ER (recvCell c (dst c r)) 0 ∅ 0) (fun r => outAny c (dst c r)) hops).symm)
    isplitl [HaV] <;> iassumption
  iintro ⟨%W1, HO⟩ Hgot
  ihave Hgot := (Entails.of_eq (list_sep (fun r => atPos ER (recvCell c (dst c r)) 1 ∅ 0)
    (fun r => iprop(rowAny c (dst c r) ∗ outIs c (dst c r) (outBlk m ρ c (dst c r)))) hops)) $$ Hgot
  icases Hgot with ⟨HaV, Hgot⟩
  ihave Hgot := (Entails.of_eq (list_sep (fun r => rowAny c (dst c r)) (fun r => outIs c (dst c r) (outBlk m ρ c (dst c r))) hops)) $$ Hgot
  icases Hgot with ⟨Hrow, Hout⟩
  -- the waits for the sends
  iapply (drains_run m ρ K c _ _ hops W1)
  isplitr; · iexact HR
  isplitl [HO]; · iexact HO
  isplitl [HcS HaS]
  · iapply (Entails.of_eq (list_sep (fun r => cred (tallyAt (sendCell c (leg r)) () N)) (fun r => atPos ER (sendCell c (leg r)) 0 ∅ 0) hops).symm)
    isplitl [HcS] <;> iassumption
  iintro HO Hgot
  ihave Hgot := (Entails.of_eq (list_sep (fun r => atPos ER (sendCell c (leg r)) 1 ∅ 0) (fun r => colAny c (dst c r)) hops)) $$ Hgot
  icases Hgot with ⟨HaS, Hcol⟩
  -- the end
  imod (close_all m ρ K c) $$ [HaB HaS0 HaV0 HaS HaV] with Hz
  · isplitr; · iexact HR
    isplitl [HaB]; · iexact HaB
    isplitl [HaS0]; · iexact HaS0
    isplitl [HaV0]; · iexact HaV0
    isplitl [HaS] <;> iassumption
  rw [Prog.pure_eq_ret, wp_ret]; imodintro
  iapply Hk
  unfold ended inputs scratches
  isplitl [Hx Hw Ha Hb]
  · isplitl [Hx]; · iexact Hx
    isplitl [Hw]; · iexact Hw
    isplitl [Ha] <;> iassumption
  isplitl [Hout0 Hout]
  · iapply (out_join m ρ c)
    iapply (Entails.of_eq (bigSep_around c fun k => outIs c k (outBlk m ρ c k)).symm)
    isplitl [Hout0] <;> iassumption
  isplitl [Hs0 Hcol0 Hcol Hrow0 Hrow]
  · isplitl [Hs0]; · unfold rowsAt; iexists (narrow m ρ c); iexact Hs0
    isplitl [Hcol0 Hcol]
    · iapply (col_join c)
      iapply (Entails.of_eq (bigSep_around c (colAny c)).symm)
      isplitl [Hcol0] <;> iassumption
    iapply (row_join c)
    iapply (Entails.of_eq (bigSep_around c (rowAny c)).symm)
    isplitl [Hrow0] <;> iassumption
  isplitl [Hz]; · iexact Hz
  iexact HO

end Cert.KernelIdeal.A2A
-- ==== Proof.KernelIdeal.Body.lean ====
/- What the pipeline is told, and its demand on the body met.

   The region has one point. Before it a device holds its share of the exchange and its scratch buffers; after it the scratch
   buffers and its semaphores at zero. The staged windows keep their contents but for the result's. -/
module

public import proofs.«01_k».proof.Proof.KernelIdeal.Device

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's share of the exchange at the start. -/
def start (c : Dev nD) : sProp 𝕄 :=
  iprop((∃ K, records m ρ K ∗ places c ∗ rights c) ∗ credits c ∗ levAts L lv)
/-- Before the point, -/
def before (c : Dev nD) : sProp 𝕄 := iprop(start m ρ c ∗ scratches c)
/-- and after it. -/
def finished (c : Dev nD) : sProp 𝕄 := iprop(scratches c ∗ bigSep Finset.univ fun k : Slot => semVal (kcell (c, k)) 0)

/-- The proof data of the one region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => before m ρ c
    | ⟨_ + 1, _⟩ => finished c
  q _ := fullShare
  owed t := match t with
    | ⟨0, _⟩ => O₀ c
    | ⟨_ + 1, _⟩ => 0

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- To hold a whole buffer is to hold its elements. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the pipeline gives the body, -/
def given (c : Dev nD) : sProp 𝕄 :=
  iprop(before m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- and what it asks for. -/
def asked (c : Dev nD) : sProp 𝕄 :=
  iprop(finished c ∗ (dats m ρ 0 c).owesAt () t0_0.succ ∗ stg c cc0_stg0_0 (xstg m ρ c) ∗ stg c cc0_stg1_0 (wstg m ρ c)
    ∗ stg c cc0_stg2_0 (astg m ρ c) ∗ stg c cc0_stg3_0 (bstg m ρ c) ∗ stg c cc0_stg4_0 (outAt m ρ c))

/-- What a device ends with is what is asked for. -/
theorem ended_asked (c : Dev nD) : ended m ρ c ⊢ asked m ρ c := by
  unfold ended asked inputs wAt finished
  rw [owns_stg]
  iintro ⟨⟨Hx, Hw, Ha, Hb⟩, Ho, Hs, Hz, ⟨%W, HO⟩⟩
  isplitl [Hs Hz]
  · isplitl [Hs] <;> iassumption
  isplitl [HO]
  · unfold Dat.owesAt Pipeline.owesWithin
    iexists W
    isplitr; · ipureintro; exact fun _ _ => Or.inl trivial
    rw [show (dats m ρ 0 c).owed t0_0.succ = 0 from rfl]
    iexact HO
  isplitl [Hx]
  · iexists (xstg m ρ c); isplitr; · (ipureintro; rfl)
    iexact Hx
  isplitl [Hw]
  · iexists (wstg m ρ c); isplitr; · (ipureintro; rfl)
    iexact Hw
  isplitl [Ha]
  · iexists (astg m ρ c); isplitr; · (ipureintro; rfl)
    iexact Ha
  isplitl [Hb]
  · iexists (bstg m ρ c); isplitr; · (ipureintro; rfl)
    iexact Hb
  iexact Ho

/-- Each input is fetched, so staged as it is. -/
theorem before_x (c : Dev nD) (d) : (dats m ρ 0 c).before (0 : Fin 5) t0_0 d = xstg m ρ c := by
  unfold Dat.before; rw [if_pos (fetch0_0 t0_0)]; rfl
/-- Before the body the second staging buffer holds the weight, -/
theorem before_w (c : Dev nD) (d) : (dats m ρ 0 c).before (1 : Fin 5) t0_0 d = wstg m ρ c := by
  unfold Dat.before; rw [if_pos (fetch0_1 t0_0)]; rfl
/-- the third the first scale, -/
theorem before_a (c : Dev nD) (d) : (dats m ρ 0 c).before (2 : Fin 5) t0_0 d = astg m ρ c := by
  unfold Dat.before; rw [if_pos (fetch0_2 t0_0)]; rfl
/-- and the fourth the second scale. -/
theorem before_b (c : Dev nD) (d) : (dats m ρ 0 c).before (3 : Fin 5) t0_0 d = bstg m ρ c := by
  unfold Dat.before; rw [if_pos (fetch0_3 t0_0)]; rfl

set_option maxRecDepth 65536 in
/-- The body, from what it is given to what is asked for. -/
theorem body_run (c : Dev nD) :
    given m ρ c ⊢ runs c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4)
      (fun _ => asked m ρ c) := by
  rw [body_eq]
  unfold runs
  simp only [Prog.lift, Prog.bind_op, Prog.bind_ret, Prog.pure_eq_ret, wp_deviceId]
  show given m ρ c ⊢ runs c (program c) (fun _ => asked m ρ c)
  unfold given before start Dat.owesAt Pipeline.owesWithin
  simp only [before_x, before_w, before_a, before_b]
  iintro ⟨⟨⟨⟨%K, HR, Hpl, Hri⟩, Hcr, Hlev⟩, Hs⟩, ⟨%W, -, HO⟩, ⟨%_, %g0, %h0, Hx⟩, ⟨%_, %g1, %h1, Hw⟩, ⟨%_, %g2, %h2, Ha⟩, ⟨%_, %g3, %h3, Hb⟩, ⟨%_, %g4, -, Ho⟩⟩
  subst h0 h1 h2 h3
  rw [show (dats m ρ 0 c).owed t0_0.castSucc = O₀ c from rfl]
  iapply (program_run m ρ K c W)
  isplitl [HR]; · iexact HR
  isplitl [Hpl]; · iexact Hpl
  isplitl [Hri]; · iexact Hri
  isplitl [Hcr]; · iexact Hcr
  isplitl [Hlev]; · iexact Hlev
  isplitl [Hs]; · iexact Hs
  isplitl [Hx Hw Ha Hb]
  · unfold inputs wAt
    isplitl [Hx]; · iexact Hx
    isplitl [Hw]; · iexact Hw
    isplitl [Ha] <;> iassumption
  isplitl [Ho]; · iexists g4; iexact Ho
  isplitl [HO]; · iexact HO
  iintro H
  iapply (ended_asked m ρ c); iexact H

/-- What there is one of for each of the five windows, written out. -/
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 65536 in
/-- The pipeline's demand on the body of device `c`. -/
theorem body_obligation (c : Dev nD) : BodyObligation (dats (F := F) m ρ 0 c) (defs₀ (F := F)) 𝒱₀ () Set.univ := fun t => by
  rw [fin_N0 t]
  rw [bigSep_W, bigSep_W]
  simp only [owns_stg]
  exact body_run m ρ c

end Cert.KernelIdeal.A2A
-- ==== Proof.KernelIdeal.Run.lean ====
/- The launch: what each device is dealt, the invariants set up, what is owed to whom, and the run of the whole program. -/
module

public import proofs.«01_k».proof.Proof.KernelIdeal.Body
public import Idealize.ShloMosaic.Lib.Pipeline.CollectiveSegs

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is dealt -/

/-- The semaphores of the protocol are not those of the pipeline. -/
theorem ownSemFacts : Pipeline.OwnSemFacts cfg0.spec osem := by decide +kernel

/-- All semaphores of the exchange. -/
def cellsAll : Finset (GSem nD τ sig) := Finset.univ.map ⟨kcell, kcell_injective⟩

/-- A right to pay: the payer, which of its three kinds, and the distance. -/
abbrev rightOf (x : Dev nD × Fin 3 × Fin 15) : GSem nD τ sig × ℕ × Dev nD := match x.2.1 with
  | 0 => (barCell (dst x.1 x.2.2), 0, x.1)
  | 1 => (recvCell (dst x.1 x.2.2) x.1, 0, x.1)
  | 2 => (sendCell x.1 (leg x.2.2), 0, x.1)

/-- Which kind a right is of, read off its semaphore. -/
def kindOf : Option Slot → Fin 3
  | some none => 0
  | some (some (true, _)) => 1
  | _ => 2

/-- The kind of a right is recovered from its semaphore. -/
theorem kindOf_right (x : Dev nD × Fin 3 × Fin 15) : kindOf (slotOf (rightOf x).1.2) = x.2.1 := by
  obtain ⟨c, j, r⟩ := x
  match j with
  | 0 => exact congrArg kindOf (slotOf_csem none)
  | 1 => exact congrArg kindOf (slotOf_csem (some (true, c)))
  | 2 => exact congrArg kindOf (slotOf_csem (some (false, leg r)))

/-- Different rights have different names. -/
theorem rightOf_injective : Function.Injective rightOf := by
  rintro ⟨c, j, r⟩ ⟨c', j', r'⟩ h
  have hj : j = j' := by
    have := congrArg (fun t : GSem nD τ sig × ℕ × Dev nD => kindOf (slotOf t.1.2)) h
    exact (kindOf_right (c, j, r)).symm.trans (this.trans (kindOf_right (c', j', r')))
  subst hj
  have hc : c = c' := by
    match j with
    | 0 => exact congrArg (fun t : GSem nD τ sig × ℕ × Dev nD => t.2.2) h
    | 1 => exact congrArg (fun t : GSem nD τ sig × ℕ × Dev nD => t.2.2) h
    | 2 => exact congrArg (fun t : GSem nD τ sig × ℕ × Dev nD => t.2.2) h
  subst hc
  have hr : r = r' := by
    match j with
    | 0 => exact dst_injective c (congrArg (fun t : GSem nD τ sig × ℕ × Dev nD => t.1.1.1) h)
    | 1 => exact dst_injective c (congrArg (fun t : GSem nD τ sig × ℕ × Dev nD => t.1.1.1) h)
    | 2 =>
      have h2 : some (false, leg r) = some (false, leg r') :=
        csem_injective (congrArg (fun t : GSem nD τ sig × ℕ × Dev nD => t.1.2) h)
      exact leg_injective (congrArg Prod.snd (Option.some.inj h2))
  rw [hr]

/-- All rights to pay. -/
def rightsAll : Finset (GSem nD τ sig × ℕ × Dev nD) := Finset.univ.map ⟨rightOf, rightOf_injective⟩

/-- The launch's element: the pipeline's and the exchange's. -/
def u₀ : UU := (initOf (Pipeline.cells cfgs cellOf_inj) (Pipeline.launchToks cfgs cellOf_inj), initOf cellsAll rightsAll)

/-- What device `c` is dealt of it. -/
def dealt (c : Dev nD) : sProp 𝕄 :=
  iprop((bigSep Finset.univ fun k : Slot => roundState ER (rd m ρ) (kcell (c, k)) 0)
    ∗ (bigSep Finset.univ fun k : Slot => iprop(atPos ER (kcell (c, k)) 0 ∅ 0 ∗ reached ER (kcell (c, k)) 0)) ∗ rights c)

/-- What there is one of for each semaphore, device by device. -/
theorem cells_by_device (Φ : GSem nD τ sig → sProp 𝕄) :
    bigSep cellsAll Φ = bigSep Finset.univ fun c : Dev nD => bigSep Finset.univ fun k : Slot => Φ (kcell (c, k)) := by
  unfold cellsAll; rw [bigSep_map, bigSep_univ_prod]; rfl

/-- The rights, device by device. -/
theorem rights_by_device :
    bigSep rightsAll (fun x => (dutyTok ER x.1 x.2.1 x.2.2 : sProp 𝕄)) = bigSep Finset.univ fun c : Dev nD => rights c := by
  unfold rightsAll; rw [bigSep_map, bigSep_univ_prod]
  refine bigSep_congr fun c _ => ?_
  unfold rights
  rw [bigSep_univ_prod, bigSep_univ_eq_bigSepL [(0 : Fin 3), 1, 2] (by decide) (by decide), bigSepL_cons', bigSepL_cons', bigSepL_cons', bigSepL_nil,
    bigSep_univ_eq_bigSepL hops (by decide) (by decide), bigSep_univ_eq_bigSepL hops (by decide) (by decide),
    bigSep_univ_eq_bigSepL hops (by decide) (by decide)]
  exact congrArg (fun X => iprop((bigSepL hops fun r => dutyTok ER (barCell (dst c r)) 0 c)
    ∗ (bigSepL hops fun r => dutyTok ER (recvCell (dst c r) c) 0 c) ∗ X)) (equiv_iff.mp BI.sep_emp)

/-- The exchange's element funds every device's share. -/
theorem fund_all : BI.own (ER (initOf cellsAll rightsAll)) ⊢ (|==> bigSep Finset.univ (dealt m ρ) : sProp 𝕄) := by
  iintro HX
  imod (Rounds.fund ER (rd m ρ) cellsAll rightsAll) $$ HX with ⟨Hst, Hr, Hat, Htok⟩
  imodintro
  ihave Hst' := (Entails.of_eq (cells_by_device fun g => roundState ER (rd m ρ) g 0)) $$ Hst
  ihave Hat' := (Entails.of_eq (cells_by_device fun g => atPos ER g 0 ∅ 0)) $$ Hat
  ihave Hr' := (Entails.of_eq (cells_by_device fun g => reached ER g 0)) $$ Hr
  ihave Htok' := (Entails.of_eq rights_by_device) $$ Htok
  unfold dealt; simp only [bigSep_sep']
  isplitl [Hst']; · iexact Hst'
  isplitl [Hat' Hr']
  · isplitl [Hat'] <;> iassumption
  iexact Htok'

/-! ## The invariants -/

/-- The handshake's semaphore is the one the region does not scope. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

/-- A device's own semaphores and the handshake's are all its semaphores. -/
theorem sems0_eq (c : Dev nD) :
    (bigSep Finset.univ fun k : Slot => (semVal (kcell (c, k)) 0 : sProp 𝕄))
      = iprop(unscopedSems0 c ∗ Pipeline.ownSems0 (Ix := Unit) (Name := ℕ) (U := UU) (Lvl := ℕ) (Val := Elt F) (τ := τ) osem c) := by
  rw [slots_scoped, unscopedSems0_eq]; rfl

/-- Each semaphore of a device, at zero, becomes one with its rounds laid down. -/
theorem cells_alloc (c : Dev nD) :
    iprop((bigSep Finset.univ fun k : Slot => semVal (kcell (c, k)) 0) ∗ bigSep Finset.univ fun k : Slot => roundState ER (rd m ρ) (kcell (c, k)) 0)
      ⊢ (|={Set.univ}=> bigSep Finset.univ fun k : Slot => iprop(∃ κ : ℕ, cellInv ER (rd m ρ) κ (kcell (c, k))) : sProp 𝕄) := by
  rw [← bigSep_sep']
  exact (bigSep_mono fun k _ => (Rounds.body_intro ER (rd m ρ) (kcell (c, k))).trans inv_alloc).trans (bigSep_fupd _ _)

/-- One device's semaphores under their invariants. -/
theorem device_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Slot => iprop(∃ κ : ℕ, cellInv ER (rd m ρ) κ (kcell (c, k))))
          ∗ (bigSep Finset.univ fun k : Slot => iprop(atPos ER (kcell (c, k)) 0 ∅ 0 ∗ reached ER (kcell (c, k)) 0)) ∗ rights c) := by
  unfold dealt
  iintro ⟨Hos, Hus, Hst, Hat, Htok⟩
  ihave Hv := (Entails.of_eq (sems0_eq (F := F) c).symm) $$ [Hos Hus]
  · isplitl [Hus] <;> iassumption
  imod (cells_alloc m ρ c) $$ [Hv Hst] with Hinv
  · isplitl [Hv] <;> iassumption
  imodintro
  isplitl [Hinv]; · iexact Hinv
  isplitl [Hat]; · iexact Hat
  iexact Htok

/-- A device's share once the names are known. -/
def share (c : Dev nD) : sProp 𝕄 := iprop(∃ K, records m ρ K ∗ places c ∗ rights c)

/-- A device's share, from its parts. -/
theorem share_intro (K : Dev nD × Slot → ℕ) (c : Dev nD) : iprop(records m ρ K ∗ places c ∗ rights c) ⊢ share m ρ c := by
  unfold share; iintro H; iexists K; iexact H

/-- What is known to all is known to each. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All the shares together, from all the parts. -/
theorem regroup :
    (bigSep Finset.univ fun c : Dev nD => iprop((bigSep Finset.univ fun k : Slot => iprop(∃ κ : ℕ, cellInv ER (rd m ρ) κ (kcell (c, k))))
          ∗ (bigSep Finset.univ fun k : Slot => iprop(atPos ER (kcell (c, k)) 0 ∅ 0 ∗ reached ER (kcell (c, k)) 0)) ∗ rights c) : sProp 𝕄)
      ⊢ bigSep Finset.univ (share m ρ) := by
  rw [bigSep_sep', bigSep_sep', ← bigSep_univ_prod (fun ck : Dev nD × Slot => iprop(∃ κ : ℕ, cellInv ER (rd m ρ) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (rd m ρ) κ (kcell ck) : sProp 𝕄))) $$ HI
  icases HK with ⟨%K, #HI⟩
  iapply (bigSep_known (R := records m ρ K) (Φ := fun c => iprop(places c ∗ rights c)) fun c _ => share_intro m ρ K c)
  isplitr
  · unfold records; isplitl; · iexact HI
    iexact HR
  · rw [bigSep_sep']
    isplitl [Hat]; · unfold places; iexact Hat
    iexact Htok

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (share m ρ) :=
  ((bigSep_mono fun c _ => device_alloc m ρ c).trans (bigSep_fupd _ _)).trans (BI.fupd_mono (regroup m ρ))

/-! ## What is owed to whom -/

/-- Semaphores are equal just when their names are. -/
theorem kcell_iff {a b : Dev nD × Slot} : kcell a = kcell b ↔ a = b := ⟨fun h => kcell_injective h, fun h => h ▸ rfl⟩

/-- Of its copies, a device owes a semaphore those that go there. -/
theorem OR_at (d : Dev nD) (g : GSem nD τ sig) : ∀ l : List (Fin 15),
    OR d l g () = (l.map fun r => if g = recvCell (dst d r) d then 1 else 0).sum * N
  | [] => (Nat.zero_mul N).symm
  | r :: rs => by
    unfold OR
    rw [Pi.add_apply, Finsupp.add_apply, tallyAt_apply, OR_at d g rs, List.map_cons, List.sum_cons, Nat.add_mul, Nat.add_comm]
    congr 1
    by_cases h : g = recvCell (dst d r) d
    · rw [if_pos ⟨h, rfl⟩, if_pos h, Nat.one_mul]
    · rw [if_neg fun h' => h h'.1, if_neg h, Nat.zero_mul]
/-- Of its signals likewise. -/
theorem OB_at (d : Dev nD) (g : GSem nD τ sig) : ∀ l : List (Fin 15),
    OB d l g () = (l.map fun r => if g = barCell (dst d r) then 1 else 0).sum + OR d hops g ()
  | [] => (Nat.zero_add _).symm
  | r :: rs => by
    unfold OB
    rw [Pi.add_apply, Finsupp.add_apply, tallyAt_apply, OB_at d g rs, List.map_cons, List.sum_cons]
    by_cases h : g = barCell (dst d r)
    · rw [if_pos ⟨h, rfl⟩, if_pos h]; omega
    · rw [if_neg fun h' => h h'.1, if_neg h]; omega

/-- How many signals device `d` owes the handshake of device `c`, -/
theorem owed_bar (d c : Dev nD) : O₀ d (barCell c) () = (hops.map fun r => if c = dst d r then 1 else 0).sum := by
  unfold O₀
  rw [OB_at, OR_at]
  simp only [kcell_iff, Prod.mk.injEq, and_true, reduceCtorEq, and_false, if_false, List.map_const', List.sum_replicate, smul_zero, Nat.zero_mul, Nat.add_zero]
/-- and how many copies the receive semaphore of number `k`. -/
theorem owed_recv (d c k : Dev nD) : O₀ d (recvCell c k) () = (hops.map fun r => if c = dst d r ∧ k = d then 1 else 0).sum * N := by
  unfold O₀
  rw [OB_at, OR_at]
  have e : ∀ r : Fin 15, recvCell c k = recvCell (dst d r) d ↔ c = dst d r ∧ k = d := fun r =>
    ⟨fun h => ⟨congrArg Prod.fst (kcell_injective h), congrArg Prod.snd (Option.some.inj (congrArg Prod.snd (kcell_injective h)))⟩,
      fun h => by rw [← h.1, ← h.2]⟩
  have e' : ∀ r : Fin 15, recvCell c k ≠ barCell (dst d r) := fun r h => by
    have := congrArg Prod.snd (kcell_injective h)
    cases this
  simp only [e, e', if_false, List.map_const', List.sum_replicate, smul_zero, Nat.zero_add]

/-- Fifteen devices signal each device. -/
theorem count_bar : ∀ c : Dev nD, (∑ d : Dev nD, (hops.map fun r => if c = dst d r then 1 else 0).sum) = 15 := by decide +kernel
/-- One device copies to each device over each distance. -/
theorem count_recv : ∀ (c : Dev nD) (q : Fin 15),
    (∑ d : Dev nD, (hops.map fun r => if c = dst d r ∧ dst c q = d then 1 else 0).sum) = 1 := by decide +kernel

/-- All that is owed to a device's handshake semaphore is fifteen signals. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_bar]
/-- All that is owed to a receive semaphore is one copy. -/
theorem launch_recv (c : Dev nD) (q : Fin 15) :
    tallyOn (recvCell c (dst c q)) (launchCredit (Pipeline.owing O₀) 0 (recvCell c (dst c q)))
      = (tallyAt (recvCell c (dst c q)) () N : CellTallies nD τ sig Unit) := by
  unfold tallyAt; refine congrArg _ (Finsupp.ext fun u => ?_); cases u
  rw [Pipeline.launchCredit_owing, Finsupp.single_eq_same, Finset.sum_congr rfl fun d _ => owed_recv d c (dst c q), ← Finset.sum_mul, count_recv,
    Nat.one_mul]

/-- The receive semaphores a device waits on, by distance. -/
def recvAtHop (c : Dev nD) : Fin 15 ↪ SemLoc sig :=
  ⟨fun r => csem (some (true, dst c r)), fun r r' h => dst_injective c (congrArg Prod.snd (Option.some.inj (csem_injective h)))⟩

/-- A receive semaphore is not the handshake's. -/
theorem recv_ne_bar (c : Dev nD) (r : Fin 15) : recvAtHop c r ≠ SemLoc.reg barSem := fun h => by
  have : (some (true, dst c r) : Slot) = none := csem_injective h
  cases this

/-- The receive semaphores in use are among those other than the handshake's. -/
theorem recvAtHop_sub (c : Dev nD) : Finset.univ.map (recvAtHop c) ⊆ Finset.univ.erase (SemLoc.reg barSem) := by
  intro s hs
  obtain ⟨r, -, rfl⟩ := Finset.mem_map.mp hs
  exact Finset.mem_erase.mpr ⟨recv_ne_bar c r, Finset.mem_univ _⟩

/-- A device's launch credit holds what it waits for. -/
theorem creds (c : Dev nD) : (Pipeline.launchCred O₀ c : sProp 𝕄) ⊢ credits c := by
  unfold Pipeline.launchCred credits
  rw [bigSep_univ_at _ (SemLoc.reg barSem), launch_bar]
  refine sep_mono_right ?_
  refine (show bigSep (Finset.univ.erase (SemLoc.reg barSem)) _ ⊢ bigSep (Finset.univ.map (recvAtHop c)) _ from bigSep_subset (recvAtHop_sub c)).trans ?_
  rw [bigSep_map, bigSep_univ_eq_bigSepL hops (by decide) (by decide)]
  exact bigSepL_mono fun r _ => Entails.of_eq (congrArg cred (launch_recv c r))

/-! ## The launch's conditions -/

/-- What a device starts the body with, from what it was dealt. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m ρ c)
      ⊢ |={Set.univ}=> iprop(start m ρ c ∗ emp) := by
  iintro ⟨-, Hlev, Hcr, -, HG⟩
  ihave Hc := (creds (F := F) c) $$ Hcr
  imodintro
  unfold start share
  isplitl
  · isplitl [HG]; · iexact HG
    isplitl [Hc]; · iexact Hc
    iexact Hlev
  · iempintro

/-- The same, from the share and the scratch buffers as the region hands them out. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratches
  iintro ⟨Hs, -, Hr⟩
  isplitl [Hs] <;> iassumption

/-- What the body ends with gives the scratch buffers back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finished c from rfl, scopedRest0_eq]
  unfold finished scratches
  rw [sems0_eq]
  iintro ⟨Hr, ⟨Hu, Ho⟩⟩
  isplitl [Hu]; · iexact Hu
  isplitl [Ho] <;> iassumption

/-- The pipeline's own waits are allowed at any time. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The pipeline has the whole of each array. -/
theorem share_full (c : Dev nD) (w : Fin cfg0.W) : (dats m ρ 0 c).share w = fullShare := by unfold Dat.share; split <;> rfl

/-! ## The run -/

/-- What window `w`'s array on device `c` holds in the end. -/
def finalA (c : Dev nD) (w : Fin cfg0.W) : Buf (Elt F) ((cfg0.win w).arr.view.loc (c : Thread nD τ)) := (dats m ρ 0 c).arrAt w cfg0.N

/-- Every array of the pipeline, on every device, ends at what the run computes for it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair execution of the program on the sixteen devices ends, with each
    array at its computed contents and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m ρ) (G' := share m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the arguments hold what they held. -/
theorem final_in (c : Dev nD) (w : Fin cfg0.W) (hw : (cfg0.win w).isOut = false) :
    finalA m ρ c w = (s₀ m ρ).mem ((cfg0.win w).arr.view.loc (c : Thread nD τ)) := (dats (F := F) m ρ 0 c).arrAt_in w hw _

/-- The program runs, its four arguments end as they began on every device, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (final_in m ρ c 0 rfl), (h.1 c 1).trans (final_in m ρ c 1 rfl),
    (h.1 c 2).trans (final_in m ρ c 2 rfl), (h.1 c 3).trans (final_in m ρ c 3 rfl)⟩, h.2⟩) (run_main m ρ)

end Cert.KernelIdeal.A2A
-- ==== Proof.Value.Product.lean ====
/- The mathematics of the problem, over the extended reals: one element of the scaled product made nonnegative. -/
module

public import Idealize.ShloMosaic.Lib.MatmulPlain

@[expose] public section

noncomputable section

namespace Cert.Product

open Idealize.ShloMosaic Idealize.ShloMosaic.ValueIdx
open scoped BigOperators

/-- An array of two axes over the extended reals. -/
abbrev Mat (M N : ℕ) : Type := (⟨2, ![M, N]⟩ : Shape).Idx → EReal

/-- One element of the result: row `r` of the left factor times column `c` of the right one, times `s`, and zero if
    that is negative. -/
def entry {M K N : ℕ} (X : Mat M K) (W : Mat K N) (s : EReal) (r : Fin M) (c : Fin N) : EReal :=
  max ((∑ k : Fin K, X (ix2 r k) * W (ix2 k c)) * s) 0

/-- An element depends on one row of the left factor and one column of the right one only, so it is the same element
    in a block of rows and a block of columns. -/
theorem entry_congr {M M' K N N' : ℕ} {X : Mat M K} {W : Mat K N} {X' : Mat M' K} {W' : Mat K N'} {s s' : EReal}
    {r : Fin M} {c : Fin N} {r' : Fin M'} {c' : Fin N'}
    (hX : ∀ k, X (ix2 r k) = X' (ix2 r' k)) (hW : ∀ k, W (ix2 k c) = W' (ix2 k c')) (hs : s = s') :
    entry X W s r c = entry X' W' s' r' c' := by
  unfold entry
  rw [hs, Finset.sum_congr rfl fun k _ => by rw [hX k, hW k]]

/-- The plain product into a zero accumulator, times `s`, against zero, is `entry` at every index. -/
theorem matmul_entry {M K N : ℕ} {φ₁ φ₂ : FTy} (X : FVec Ideal ⟨2, ![M, K]⟩ φ₁) (W : FVec Ideal ⟨2, ![K, N]⟩ φ₂) (s : Ideal .f32)
    (r : Fin M) (c : Fin N) :
    max (FloatOps.matmul (DotDims.plain M K N) none X W (constant ⟨2, ![M, N]⟩ .f32 0x00000000#32) (ix2 r c) * s)
        (Ideal.ofBits .f32 0x00000000#32) = entry X W s r c := by
  rw [Ideal.matmul_plain_apply, Ideal.ofBits_zero_f32]
  unfold entry
  refine congrArg (fun t => max (t * s) 0) ?_
  show Ideal.ofBits .f32 0x00000000#32 + _ = _
  rw [Ideal.ofBits_zero_f32, zero_add]

end Cert.Product

end
-- ==== Proof.Value.Block.lean ====
/- What one block of the kernel computes, over the extended reals: the blocks sent and the block kept are the same block of
   the product, since rounding to a narrower width changes nothing there. -/
module

public import proofs.«01_k».proof.Proof.KernelIdeal.Schedule
public import proofs.«01_k».proof.Proof.Value.Product
public import Idealize.ShloMosaic.Lib.Pipeline.Value

@[expose] public section

noncomputable section

namespace Cert.KernelIdeal.A2A

open Cert.KernelIdeal Cert.KernelIdeal.Gen Cert.Product
open Idealize.ShloMosaic Idealize.ShloMosaic.ValueIdx

/-- The dimensions of the kernel's product are those of a plain product. -/
theorem dims_plain : dot_S256x4096_S4096x128_S256x128_1_0_0_1_n_n = DotDims.plain 256 4096 128 := rfl

/-- The block a device keeps is the scaled, nonnegative product of its rows and its columns. -/
theorem kept_entry (s : Ideal .f32) (w : Vec Ideal S4096x128 .fp8e5m2) (x : Vec Ideal S256x4096 .bf16) (r : Fin 256) (c : Fin 128) :
    kept (F := Ideal) s w x (ix2 r c) = entry (M := 256) (K := 4096) (N := 128) x w s r c := by
  refine Eq.trans ?_ (matmul_entry (φ₁ := .bf16) (φ₂ := .bf16) x w s r c)
  unfold kept k0_pay25
  simp only [shapeCast_self, dims_plain]
  rfl

/-- The block a device sends, once widened again by its receiver, is that same product. -/
theorem sent_entry (s : Ideal .f32) (w : Vec Ideal S4096x128 .fp8e5m2) (x : Vec Ideal S256x4096 .bf16) (r : Fin 256) (c : Fin 128) :
    widened (F := Ideal) (sent (F := Ideal) s w x) (ix2 r c) = entry (M := 256) (K := 4096) (N := 128) x w s r c := by
  refine Eq.trans ?_ (matmul_entry (φ₁ := .bf16) (φ₂ := .bf16) x w s r c)
  unfold widened sent k0_pay40 k0_pay24
  simp only [shapeCast_self, dims_plain]
  rfl

end Cert.KernelIdeal.A2A

end
-- ==== Proof.Value.Array.lean ====
/- What the kernel's result holds, over the extended reals: on device `c`, column block `c` of the scaled, nonnegative product
   of the whole `x` with the weight. -/
module

public import proofs.«01_k».proof.Proof.KernelIdeal.Run
public import proofs.«01_k».proof.Proof.Value.Block
public import Idealize.ShloMosaic.Lib.Layout

@[expose] public section

noncomputable section

namespace Cert.KernelIdeal.A2A

open Cert.KernelIdeal Cert.KernelIdeal.Gen Cert.Product
open Idealize.ShloMosaic Idealize.ShloMosaic.TcCoe Idealize.ShloMosaic.ValueIdx Idealize.SL.Sem

section AnyFloat

variable {F : FTy → Type} [FloatOps F]
variable (m : (ℓ : Loc nD τ sig) → Buf (Elt F) ℓ) (ρ : Dev nD → PrngReg)

/-- The staged rows of `x` are those of the argument. -/
theorem xstg_eq (c : Dev nD) : xstg m ρ c = m ((c : Thread nD τ).loc main_arg0) :=
  Memref.read_access_unit_zero (Elt F) main_arg0 (funext fun a => by fin_cases a <;> decide) _ _
/-- The staged weight is the argument. -/
theorem wstg_eq (c : Dev nD) : wstg m ρ c = m ((c : Thread nD τ).loc main_arg1) :=
  Memref.read_access_unit_zero (Elt F) main_arg1 (funext fun a => by fin_cases a <;> decide) _ _
/-- The staged first scale is the argument. -/
theorem astg_eq (c : Dev nD) : astg m ρ c = m ((c : Thread nD τ).loc main_arg2) :=
  Memref.read_access_unit_zero (Elt F) main_arg2 (funext fun a => by fin_cases a; decide) _ _
/-- The staged second scale is the argument. -/
theorem bstg_eq (c : Dev nD) : bstg m ρ c = m ((c : Thread nD τ).loc main_arg3) :=
  Memref.read_access_unit_zero (Elt F) main_arg3 (funext fun a => by fin_cases a; decide) _ _

/-- After the run the result array of device `c` holds its sixteen row blocks. -/
theorem final_out (c : Dev nD) : finalA m ρ c 4 = outAt m ρ c := by
  have h : (win0_4.blk (0 : Fin 1)).view.read (Elt F) (finalA m ρ c 4) = outAt m ρ c := by
    unfold finalA
    rw [show cfg0.N = ((0 : Fin 1) : Fin cfg0.N).val + 1 from rfl, (dats m ρ 0 c).arrAt_succ 4 (0 : Fin 1)]
    rw [show (cfg0.win 4).flush (0 : Fin 1) = true from by decide, if_pos rfl]
    exact View.read_write_univ _ _
  exact (Memref.read_access_unit_zero (Elt F) main_v1 (funext fun a => by fin_cases a <;> decide) _ _).symm.trans h

/-- A column of a column block of the weight is a column of the weight. -/
theorem wcol_apply (c j : Dev nD) (k : Fin 4096) (q : Fin 128) (q' : Fin 2048) (hq : q'.val = 128 * j.val + q.val) :
    wcol m ρ c j (ix2 k q) = m ((c : Thread nD τ).loc main_arg1) (ix2 k q') := by
  rw [← wstg_eq m ρ c]
  refine congrArg (wstg m ρ c) (funext fun a => Fin.ext ?_)
  match a with
  | ⟨0, _⟩ => show 0 + 1 * k.val = k.val; omega
  | ⟨1, _⟩ => show 128 * j.val + 1 * q.val = q'.val; omega

/-- A buffer of one element has one index. -/
theorem one_index (i j : S1.Idx) : i = j := funext fun a => Fin.ext (by
  match a with
  | ⟨0, _⟩ =>
    have hi : (i 0).val < 1 := (i 0).isLt
    have hj : (j 0).val < 1 := (j 0).isLt
    show (i 0).val = (j 0).val
    omega)

/-- The scale is the product of the two scales given. -/
theorem scale_eq (c : Dev nD) : scale m ρ c
    = Scalar.mulf (m ((c : Thread nD τ).loc main_arg2) (ix1 (0 : Fin 1))) (m ((c : Thread nD τ).loc main_arg3) (ix1 (0 : Fin 1))) := by
  unfold scale k0_pay1
  rw [astg_eq, bstg_eq]
  exact congrArg₂ Scalar.mulf (congrArg (m ((c : Thread nD τ).loc main_arg2)) (one_index _ _)) (congrArg (m ((c : Thread nD τ).loc main_arg3)) (one_index _ _))

end AnyFloat

variable (m : (ℓ : Loc nD τ sig) → Buf (Elt Ideal) ℓ) (ρ : Dev nD → PrngReg)

/-- The rows narrowed are the rows. -/
theorem narrow_eq (c : Dev nD) : narrow (F := Ideal) m ρ c = m ((c : Thread nD τ).loc main_arg0) := by
  rw [← xstg_eq m ρ c]
  unfold narrow k0_pay2
  simp only [shapeCast_self]
  rfl

/-- Row block `k` of the result on device `c` is the product of device `k`'s rows with column block `c` of device
    `k`'s weight, whether it was kept or sent. -/
theorem outBlk_entry (c k : Dev nD) (r : Fin 256) (q : Fin 128) :
    outBlk (F := Ideal) m ρ c k (ix2 r q)
      = entry (M := 256) (K := 4096) (N := 128) (narrow m ρ k) (wcol m ρ k c) (scale m ρ k) r q := by
  unfold outBlk
  by_cases h : k = c
  · subst h
    rw [if_pos rfl]
    exact kept_entry _ _ _ r q
  · rw [if_neg h]
    exact sent_entry _ _ _ r q

/-- Where every device holds its block of rows of one `x`, one weight and one pair of scales, its result is its block of
    columns of the scaled, nonnegative product. -/
theorem final_entry (X : Mat 4096 4096) (W : Mat 4096 2048) (a b : (⟨1, ![1]⟩ : Shape).Idx → EReal)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = W)
    (ha : ∀ c : Dev nD, m ((c : Thread nD τ).loc main_arg2) = a)
    (hb : ∀ c : Dev nD, m ((c : Thread nD τ).loc main_arg3) = b) (c : Dev nD) :
    finalA (F := Ideal) m ρ c 4 = Layout.block ⟨2, ![4096, 128]⟩ ⟨2, ![4096, 2048]⟩ 1 16 c
      (fun i => entry X W (a (ix1 (0 : Fin 1)) * b (ix1 (0 : Fin 1))) (i 0) (i 1)) := by
  rw [final_out]
  funext i
  rw [Layout.block_apply]
  unfold outAt
  rw [eq_ix2 (n0 := 256) (n1 := 128) (inBlk i)]
  refine (outBlk_entry m ρ c (blkOf i) _ _).trans (entry_congr (fun k => ?_) (fun k => ?_) ?_)
  · rw [narrow_eq, hX, Layout.block_apply]
    refine congrArg X (funext fun d => Fin.ext ?_)
    match d with
    | ⟨0, _⟩ =>
      show (i 0).val / 256 * 256 + (i 0).val % 256 = (i 0).val
      omega
    | ⟨1, _⟩ => rfl
  · refine (wcol_apply m ρ (blkOf i) c k _ _ ?_).trans (congrFun (hW _) _)
    show c.val * 128 + (i 1).val = 128 * c.val + (i 1).val
    omega
  · rw [scale_eq, ha, hb]
    rfl

end Cert.KernelIdeal.A2A

end
-- ==== Proof.Value.Reference.lean ====
/- What the reference computes, over the extended reals: at every index the scaled, nonnegative product. -/
module

public import proofs.«01_k».proof.Proof.Gen.ReferenceIdeal.Value
public import proofs.«01_k».proof.Proof.Value.Product
public import Idealize.ShloMosaic.Lib.Pipeline.Value
public import Idealize.ShloMosaic.Lib.VecWindow

@[expose] public section

noncomputable section

namespace Cert.ReferenceIdeal.Plain

open Cert.ReferenceIdeal Cert.ReferenceIdeal.Gen Cert.ReferenceIdeal.Value Cert.Product
open Idealize.ShloMosaic Idealize.ShloMosaic.TcCoe Idealize.ShloMosaic.ValueIdx Idealize.SL.Sem

section AnyFloat

variable {F : FTy → Type} [FloatOps F]
variable (m : (ℓ : Loc nD τ sig) → Buf (Elt F) ℓ) (ρ : Dev nD → PrngReg)

/-- The corner of an array. -/
theorem zeros : (![0, 0] : Fin 2 → Nat) = fun _ => 0 := funext fun a => by fin_cases a <;> rfl

/-- The one element of a buffer of one element. -/
abbrev only (v : Vec F S1 .f32) : Elt F .f32 := v (ix1 (0 : Fin 1))

/-- A buffer of one element has one index. -/
theorem one_index (i j : S1.Idx) : i = j := funext fun a => Fin.ext (by
  match a with
  | ⟨0, _⟩ =>
    have hi : (i 0).val < 1 := (i 0).isLt
    have hj : (j 0).val < 1 := (j 0).isLt
    show (i 0).val = (j 0).val
    omega)

/-- The body's one store covers its output, and its loads read its inputs whole: the output is the value stored. -/
theorem out_stored (c : Dev nD) (arg0 : Memref sig .tc .vmem S4096x4096 .fp8e5m2) (harg0 : arg0.IsWhole) (arg1 : Memref sig .tc .vmem S4096x2048 .fp8e5m2) (harg1 : arg1.IsWhole)
    (arg2 : Memref sig .tc .smem S1 .f32) (harg2 : arg2.IsWhole) (arg3 : Memref sig .tc .smem S1 .f32) (harg3 : arg3.IsWhole) (arg4 : Memref sig .tc .vmem S4096x2048 .f32) (harg4 : arg4.IsWhole)
    (x0 : Vec F S4096x4096 .fp8e5m2) (x1 : Vec F S4096x2048 .fp8e5m2) (x2 : Vec F S1 .f32) (x3 : Vec F S1 .f32) :
    out0_A_4 c arg0 harg0 arg1 harg1 arg2 harg2 arg3 harg3 arg4 harg4 x0 x1 x2 x3 = k0_pay1 x0 x1 (only x2) (only x3) := by
  unfold out0_A_4
  rw [View.read_writes_eq_canon _ _ _ (cover0_A_4 c arg0 harg0 arg1 harg1 arg2 harg2 arg3 harg3 arg4 harg4 x0 x1 x2 x3)]
  refine (View.canon_unit_zero zeros _ _).trans ?_
  rw [View.readAt_full, View.readAt_full, harg0.read_unread, harg1.read_unread]
  refine congrArg₂ (k0_pay1 x0 x1) ?_ ?_
  · unfold kernelRun0_A.sl.r
    rw [View.readAt_full, harg2.read_unread]
    exact congrArg x2 (one_index _ _)
  · unfold kernelRun0_A.sl.r_1
    rw [View.readAt_full, harg3.read_unread]
    exact congrArg x3 (one_index _ _)

/-- After the run the result array holds the stored value of the four arguments. -/
theorem result_eq (c : Dev nD) : (dats m 0 c).arrAt 4 cfg0.N
    = k0_pay1 (m ((c : Thread nD τ).loc main_arg0)) (m ((c : Thread nD τ).loc main_arg1))
        (only (m ((c : Thread nD τ).loc main_arg2))) (only (m ((c : Thread nD τ).loc main_arg3))) := by
  have hb := blocks4 m c (0 : Fin 1) (by decide)
  rw [flushed4_A m c (0 : Fin 1), out_stored] at hb
  have h0 : iblk m c 0 (0 : Fin 1) = m ((c : Thread nD τ).loc main_arg0) :=
    Memref.read_access_unit_zero (Elt F) main_arg0 (funext fun a => by fin_cases a <;> decide) _ _
  have h1 : iblk m c 1 (0 : Fin 1) = m ((c : Thread nD τ).loc main_arg1) :=
    Memref.read_access_unit_zero (Elt F) main_arg1 (funext fun a => by fin_cases a <;> decide) _ _
  have h2 : iblk m c 2 (0 : Fin 1) = m ((c : Thread nD τ).loc main_arg2) :=
    Memref.read_access_unit_zero (Elt F) main_arg2 (funext fun a => by fin_cases a; decide) _ _
  have h3 : iblk m c 3 (0 : Fin 1) = m ((c : Thread nD τ).loc main_arg3) :=
    Memref.read_access_unit_zero (Elt F) main_arg3 (funext fun a => by fin_cases a; decide) _ _
  rw [h0, h1, h2, h3] at hb
  exact (Memref.read_access_unit_zero (Elt F) main_v0 (funext fun a => by fin_cases a <;> decide) _ _).symm.trans hb

end AnyFloat

/-- The dimensions of the reference's product are those of a plain product. -/
theorem dims_plain : dot_S4096x4096_S4096x2048_S4096x2048_1_0_0_1_n_n = DotDims.plain 4096 4096 2048 := rfl

/-- The stored value, at every index, is the scaled, nonnegative product. -/
theorem stored_entry (x : Vec Ideal S4096x4096 .fp8e5m2) (w : Vec Ideal S4096x2048 .fp8e5m2) (a b : Ideal .f32) :
    k0_pay1 (F := Ideal) x w a b = fun i => entry (M := 4096) (K := 4096) (N := 2048) x w (a * b) (i 0) (i 1) := by
  funext i
  rw [eq_ix2 (n0 := 4096) (n1 := 2048) i]
  refine Eq.trans ?_ (matmul_entry (φ₁ := .f32) (φ₂ := .f32) x w (a * b) (i 0) (i 1))
  unfold k0_pay1
  simp only [dims_plain]
  rfl

/-- After the run the result array is, at every index, the scaled, nonnegative product of the arguments. -/
theorem result_entry (m : (ℓ : Loc nD τ sig) → Buf (Elt Ideal) ℓ) (c : Dev nD) : (dats (F := Ideal) m 0 c).arrAt 4 cfg0.N
    = fun i => entry (M := 4096) (K := 4096) (N := 2048) (m ((c : Thread nD τ).loc main_arg0)) (m ((c : Thread nD τ).loc main_arg1))
        (only (F := Ideal) (m ((c : Thread nD τ).loc main_arg2)) * only (F := Ideal) (m ((c : Thread nD τ).loc main_arg3))) (i 0) (i 1) :=
  (result_eq m c).trans (stored_entry _ _ _ _)

end Cert.ReferenceIdeal.Plain

end
-- ==== Proof.Value.Equation.lean ====
/- The equation: on every device the kernel leaves its block of the reference's result. -/
module

public import proofs.«01_k».proof.Defs
public import proofs.«01_k».proof.Proof.Value.Array
public import proofs.«01_k».proof.Proof.Value.Reference

@[expose] public section

noncomputable section

namespace Cert.Proof

open Idealize.ShloMosaic Idealize.ShloMosaic.TcCoe Idealize.SL.Sem Cert.Product

/-- Over the extended reals, where the devices hold their rows of the reference's `x`, its weight and its scales, the kernel's
    run leaves on every device that device's columns of what the reference's run leaves, and neither run changes its arguments. -/
theorem equation : Cert.algebraic_KernelIdeal_ReferenceIdeal := by
  intro m g m' g' _ hm
  refine ⟨fun i => entry (M := 4096) (K := 4096) (N := 2048)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (Cert.ReferenceIdeal.Plain.only (F := Ideal) (m' (((0 : Dev Cert.ReferenceIdeal.nD).tc : Thread Cert.ReferenceIdeal.nD Cert.ReferenceIdeal.τ).loc Cert.ReferenceIdeal.main_arg2))
        * Cert.ReferenceIdeal.Plain.only (F := Ideal) (m' (((0 : Dev Cert.ReferenceIdeal.nD).tc : Thread Cert.ReferenceIdeal.nD Cert.ReferenceIdeal.τ).loc Cert.ReferenceIdeal.main_arg3)))
      (i 0) (i 1), ?_, ?_⟩
  · refine (θ_run Cert.KernelIdeal.defs _ _).mono (fun r h c => ⟨(h.1 c 4).trans ?_, (h.1 c 0).trans (Cert.KernelIdeal.A2A.final_in m g c 0 rfl),
      (h.1 c 1).trans (Cert.KernelIdeal.A2A.final_in m g c 1 rfl), (h.1 c 2).trans (Cert.KernelIdeal.A2A.final_in m g c 2 rfl),
      (h.1 c 3).trans (Cert.KernelIdeal.A2A.final_in m g c 3 rfl)⟩) (Cert.KernelIdeal.A2A.run_main (F := Ideal) m g)
    exact Cert.KernelIdeal.A2A.final_entry m g _ _ _ _ (fun c => (hm c).1) (fun c => (hm c).2.1) (fun c => (hm c).2.2.1)
      (fun c => (hm c).2.2.2) c
  · refine (θ_run Cert.ReferenceIdeal.defs _ _).mono (fun r h => ?_) (Cert.ReferenceIdeal.Value.run_blocks (F := Ideal) m' g')
    exact ⟨(h 0).1.trans (Cert.ReferenceIdeal.Plain.result_entry m' 0), (h 0).2⟩

end Cert.Proof

end
-- ==== Proof.lean ====
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Value.Equation

@[expose] public section

noncomputable section

namespace Cert.Proof

open Idealize.ShloMosaic Idealize.SL.Sem

/-- All five claims. -/
theorem claim : Cert.Claim := ⟨Cert.Kernel.Gen.facts, Cert.KernelIdeal.Gen.facts, Cert.ReferenceIdeal.Gen.facts,
  fun m g _ => Cert.Kernel.A2A.frame m g, fun m g _ => Cert.KernelIdeal.A2A.frame m g,
  fun m g _ => Cert.ReferenceIdeal.Gen.frame m g, trivial, equation⟩

end Cert.Proof

end
